-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2 = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2 = (fun _ => 1#1)

def Pre_Reference2Ideal [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v81) = v2 c
          ∧ r.2.mem ((c.tc : Thread Cert.Reference3Ideal.nD Cert.Reference3Ideal.τ).loc Cert.Reference3Ideal.main_v94) = v3 c
          ∧ r.2.mem ((c.tc : Thread Cert.Reference3Ideal.nD Cert.Reference3Ideal.τ).loc Cert.Reference3Ideal.main_v95) = v4 c
          ∧ r.2.mem ((c.tc : Thread Cert.Reference3Ideal.nD Cert.Reference3Ideal.τ).loc Cert.Reference3Ideal.main_v116) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
-- ==== Pre_finite.lean ====
abbrev S1024x36864 : Shape := ⟨2, ![1024, 36864]⟩
abbrev S8x4352x1024 : Shape := ⟨3, ![8, 4352, 1024]⟩
abbrev S8x17x512x256 : Shape := ⟨4, ![8, 17, 512, 256]⟩
abbrev S_ : Shape := ⟨0, ![]⟩

class Facts : Prop where
  bcast_S_S1024x36864 : S_.BroadcastsInDim S1024x36864 (![] : Fin 0 → Fin S1024x36864.rank)
  bcast_S_S8x4352x1024 : S_.BroadcastsInDim S8x4352x1024 (![] : Fin 0 → Fin S8x4352x1024.rank)

variable [Facts]

def fn {F : FTy → Type} [FloatOps F] (main_arg0 : FVec F S1024x36864 .bf16) (main_arg1 : FVec F S8x4352x1024 .bf16) (main_arg2 : FVec F S8x17x512x256 .bf16) : IVec S1024x36864 1 × IVec S8x4352x1024 1 :=
  let main_v0 : FVec F S1024x36864 .bf16 := Host.absf main_arg0
  let main_cst : FVec F S_ .bf16 := constant S_ .bf16 0x7F80#16
  let main_v1 : FVec F S1024x36864 .bf16 := broadcastInDim S1024x36864 ![] bcast_S_S1024x36864 main_cst
  let main_v2 : IVec S1024x36864 1 := cmpf .olt main_v0 main_v1
  let main_v3 : FVec F S8x4352x1024 .bf16 := Host.absf main_arg1
  let main_cst_0 : FVec F S_ .bf16 := constant S_ .bf16 0x7F80#16
  let main_v4 : FVec F S8x4352x1024 .bf16 := broadcastInDim S8x4352x1024 ![] bcast_S_S8x4352x1024 main_cst_0
  let main_v5 : IVec S8x4352x1024 1 := cmpf .olt main_v3 main_v4
  (main_v2, main_v5)
-- ==== Pre_tables.lean ====
abbrev S608 : Shape := ⟨1, ![608]⟩
abbrev S1 : Shape := ⟨1, ![1]⟩
abbrev S155648x8x128 : Shape := ⟨3, ![155648, 8, 128]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S608 : S_.BroadcastsInDim S608 (![] : Fin 0 → Fin S608.rank)
  bcast_S_S1 : S_.BroadcastsInDim S1 (![] : Fin 0 → Fin S1.rank)

variable [Facts]

def fn {F : FTy → Type} [FloatOps F] (main_arg0 : IVec S608 32) (main_arg1 : IVec S1 32) (main_arg2 : FVec F S155648x8x128 .f32) (main_arg3 : FVec F S32x1024x1024 .bf16) (main_arg4 : FVec F S32x1024x1024 .bf16) (main_arg5 : FVec F S32x1x1024 .f32) (main_arg6 : FVec F S32x1x1024 .f32) (main_arg7 : FVec F S32x1024x1024 .bf16) (main_arg8 : FVec F S32x1x1024 .f32) : IVec S608 1 × IVec S1 1 :=
  let main_c : IVec S_ 32 := constantI S_ 32 0#32
  let main_v0 : IVec S608 32 := broadcastInDim S608 ![] bcast_S_S608 main_c
  let main_v1 : IVec S608 1 := cmpi .sge main_arg0 main_v0
  let main_c_0 : IVec S_ 32 := constantI S_ 32 32#32
  let main_v2 : IVec S608 32 := broadcastInDim S608 ![] bcast_S_S608 main_c_0
  let main_v3 : IVec S608 1 := cmpi .slt main_arg0 main_v2
  let main_v4 : IVec S608 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 608#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S1024x36864 : Shape := ⟨2, ![1024, 36864]⟩
abbrev S8x4352x1024 : Shape := ⟨3, ![8, 4352, 1024]⟩
abbrev S8x17x512x256 : Shape := ⟨4, ![8, 17, 512, 256]⟩
abbrev S32768x512 : Shape := ⟨2, ![32768, 512]⟩
abbrev S256x512 : Shape := ⟨2, ![256, 512]⟩
abbrev S1x4352x256 : Shape := ⟨3, ![1, 4352, 256]⟩
abbrev S1x17x128x256 : Shape := ⟨4, ![1, 17, 128, 256]⟩
abbrev S512x128 : Shape := ⟨2, ![512, 128]⟩
abbrev S4x256x256 : Shape := ⟨3, ![4, 256, 256]⟩
abbrev S4x1x256 : Shape := ⟨3, ![4, 1, 256]⟩
abbrev S4x80x256 : Shape := ⟨3, ![4, 80, 256]⟩
abbrev S16x256 : Shape := ⟨2, ![16, 256]⟩
abbrev S1x256 : Shape := ⟨2, ![1, 256]⟩
abbrev S1x256x128 : Shape := ⟨3, ![1, 256, 128]⟩
abbrev S256x128 : Shape := ⟨2, ![256, 128]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S1x1x256 : Shape := ⟨3, ![1, 1, 256]⟩
abbrev S1x1x64x256 : Shape := ⟨4, ![1, 1, 64, 256]⟩
abbrev S64x256 : Shape := ⟨2, ![64, 256]⟩
abbrev S80x256 : Shape := ⟨2, ![80, 256]⟩
abbrev S1x80x256 : Shape := ⟨3, ![1, 80, 256]⟩

abbrev nBuf : Space → Nat
  | .hbm => 4
  | .vmem => 13
  | .smem => 0
  | _ => 0

abbrev bufTy : (tb : Table) → Fin (tcTables nBuf tb) → BufTy
  | .hbm, ⟨0, _⟩ => ⟨S1024x36864, .bf16⟩
  | .hbm, ⟨1, _⟩ => ⟨S8x4352x1024, .bf16⟩
  | .hbm, ⟨2, _⟩ => ⟨S8x17x512x256, .bf16⟩
  | .hbm, ⟨3, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x17x128x256, .bf16⟩
  | .local _ .vmem, ⟨5, _⟩ => ⟨S1x17x128x256, .bf16⟩
  | .local _ .vmem, ⟨6, _⟩ => ⟨S512x128, .bf16⟩
  | .local _ .vmem, ⟨7, _⟩ => ⟨S512x128, .bf16⟩
  | .local _ .vmem, ⟨8, _⟩ => ⟨S4x256x256, .f32⟩
  | .local _ .vmem, ⟨9, _⟩ => ⟨S4x256x256, .f32⟩
  | .local _ .vmem, ⟨10, _⟩ => ⟨S4x1x256, .f32⟩
  | .local _ .vmem, ⟨11, _⟩ => ⟨S4x1x256, .f32⟩
  | .local _ .vmem, ⟨12, _⟩ => ⟨S4x80x256, .f32⟩
  | _, _ => ⟨S1024x36864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
@[reducible] def k0_t1_loop : Scf.Loop 32 :=
  let c0_i32_50 : BitVec 32 := 0#32
  let c2_i32 : BitVec 32 := 2#32
  let v62 : BitVec 32 := Scalar.addi c0_i32_50 c2_i32
  let c1_i32 : BitVec 32 := 1#32
  ⟨c0_i32_50, v62, c1_i32⟩
def k0_mult2 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c0_i32_134 : BitVec 32 := 0#32
  let v189 : BitVec 32 := Scalar.addi v188 c0_i32_134
  let c1_i32_135 : BitVec 32 := 1#32
  let v190 : BitVec 32 := Scalar.addi v189 c1_i32_135
  let c256_i32 : BitVec 32 := 256#32
  let v191 : BitVec 32 := Scalar.muli v190 c256_i32
  v191
def k0_off1 (k0_t1 : Fin k0_t1_loop.trips) (c0_i32_134 : BitVec 32) : Fin 3 → Nat :=
  let c0_136 : Index := 0#32
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let v189 : BitVec 32 := Scalar.addi v188 c0_i32_134
  let c1_i32_135 : BitVec 32 := 1#32
  let v190 : BitVec 32 := Scalar.addi v189 c1_i32_135
  let c256_i32 : BitVec 32 := 256#32
  let v191 : BitVec 32 := Scalar.muli v190 c256_i32
  let v192 : BitVec 32 := v191
  let v193 : Index := Scalar.indexCast v192
  let c0_137 : Index := 0#32
  ![0, v193.toNat, 0]
def k0_off2 (k0_t1 : Fin k0_t1_loop.trips) (c0_i32_134 : BitVec 32) : Fin 3 → Nat :=
  let c0_148 : Index := 0#32
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let v189 : BitVec 32 := Scalar.addi v188 c0_i32_134
  let c1_i32_135 : BitVec 32 := 1#32
  let v190 : BitVec 32 := Scalar.addi v189 c1_i32_135
  let c256_i32 : BitVec 32 := 256#32
  let v191 : BitVec 32 := Scalar.muli v190 c256_i32
  let v192 : BitVec 32 := v191
  let v206 : Index := Scalar.indexCast v192
  let c128_149 : Index := 128#32
  ![0, v206.toNat, 128]
def k0_off3 (k0_t1 : Fin k0_t1_loop.trips) (c0_i32_184 : BitVec 32) : Fin 4 → Nat :=
  let c0_191 : Index := 0#32
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let v245 : BitVec 32 := Scalar.addi v188 c0_i32_184
  let v257 : Index := Scalar.indexCast v245
  let c0_192 : Index := 0#32
  let c0_193 : Index := 0#32
  ![0, v257.toNat, 0, 0]
def k0_off4 (k0_t1 : Fin k0_t1_loop.trips) (c0_i32_184 : BitVec 32) : Fin 4 → Nat :=
  let c0_207 : Index := 0#32
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let v245 : BitVec 32 := Scalar.addi v188 c0_i32_184
  let v281 : Index := Scalar.indexCast v245
  let c64_208 : Index := 64#32
  let c0_209 : Index := 0#32
  ![0, v281.toNat, 64, 0]
def k0_mult3 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c1_i32_249 : BitVec 32 := 1#32
  let v342 : BitVec 32 := Scalar.addi v188 c1_i32_249
  let c1_i32_250 : BitVec 32 := 1#32
  let v343 : BitVec 32 := Scalar.addi v342 c1_i32_250
  let c256_i32_251 : BitVec 32 := 256#32
  let v344 : BitVec 32 := Scalar.muli v343 c256_i32_251
  v344
def k0_mult4 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c2_i32_365 : BitVec 32 := 2#32
  let v495 : BitVec 32 := Scalar.addi v188 c2_i32_365
  let c1_i32_366 : BitVec 32 := 1#32
  let v496 : BitVec 32 := Scalar.addi v495 c1_i32_366
  let c256_i32_367 : BitVec 32 := 256#32
  let v497 : BitVec 32 := Scalar.muli v496 c256_i32_367
  v497
def k0_mult5 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c3_i32 : BitVec 32 := 3#32
  let v648 : BitVec 32 := Scalar.addi v188 c3_i32
  let c1_i32_481 : BitVec 32 := 1#32
  let v649 : BitVec 32 := Scalar.addi v648 c1_i32_481
  let c256_i32_482 : BitVec 32 := 256#32
  let v650 : BitVec 32 := Scalar.muli v649 c256_i32_482
  v650
def k0_mult6 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c4_i32 : BitVec 32 := 4#32
  let v801 : BitVec 32 := Scalar.addi v188 c4_i32
  let c1_i32_596 : BitVec 32 := 1#32
  let v802 : BitVec 32 := Scalar.addi v801 c1_i32_596
  let c256_i32_597 : BitVec 32 := 256#32
  let v803 : BitVec 32 := Scalar.muli v802 c256_i32_597
  v803
def k0_mult7 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c5_i32 : BitVec 32 := 5#32
  let v954 : BitVec 32 := Scalar.addi v188 c5_i32
  let c1_i32_711 : BitVec 32 := 1#32
  let v955 : BitVec 32 := Scalar.addi v954 c1_i32_711
  let c256_i32_712 : BitVec 32 := 256#32
  let v956 : BitVec 32 := Scalar.muli v955 c256_i32_712
  v956
def k0_mult8 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c6_i32 : BitVec 32 := 6#32
  let v1107 : BitVec 32 := Scalar.addi v188 c6_i32
  let c1_i32_826 : BitVec 32 := 1#32
  let v1108 : BitVec 32 := Scalar.addi v1107 c1_i32_826
  let c256_i32_827 : BitVec 32 := 256#32
  let v1109 : BitVec 32 := Scalar.muli v1108 c256_i32_827
  v1109
def k0_mult9 (k0_t1 : Fin k0_t1_loop.trips) : BitVec 32 :=
  let c8_i32 : BitVec 32 := 8#32
  let c0_i32_50 : BitVec 32 := 0#32
  let c1_i32 : BitVec 32 := 1#32
  let arg12 : BitVec 32 := Scf.iv c0_i32_50 c1_i32 k0_t1
  let v188 : BitVec 32 := Scalar.muli c8_i32 arg12
  let c7_i32 : BitVec 32 := 7#32
  let v1260 : BitVec 32 := Scalar.addi v188 c7_i32
  let c1_i32_941 : BitVec 32 := 1#32
  let v1261 : BitVec 32 := Scalar.addi v1260 c1_i32_941
  let c256_i32_942 : BitVec 32 := 256#32
  let v1262 : BitVec 32 := Scalar.muli v1261 c256_i32_942
  v1262
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x17x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S1024x36864 : Shape := ⟨2, ![1024, 36864]⟩
abbrev S8x4352x1024 : Shape := ⟨3, ![8, 4352, 1024]⟩
abbrev S8x17x512x256 : Shape := ⟨4, ![8, 17, 512, 256]⟩
abbrev S36864x1024 : Shape := ⟨2, ![36864, 1024]⟩
abbrev S32768x1024 : Shape := ⟨2, ![32768, 1024]⟩
abbrev S8x4096x8x128 : Shape := ⟨4, ![8, 4096, 8, 128]⟩
abbrev S8x4352x8x128 : Shape := ⟨4, ![8, 4352, 8, 128]⟩
abbrev S8x17x256x512 : Shape := ⟨4, ![8, 17, 256, 512]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S32768x512 : Shape := ⟨2, ![32768, 512]⟩

abbrev nBuf : Space → Nat
  | .hbm => 35
  | .vmem => 0
  | .smem => 0
  | _ => 0

abbrev bufTy : (tb : Table) → Fin (tcTables nBuf tb) → BufTy
  | .hbm, ⟨0, _⟩ => ⟨S1024x36864, .bf16⟩
  | .hbm, ⟨1, _⟩ => ⟨S8x4352x1024, .bf16⟩
  | .hbm, ⟨2, _⟩ => ⟨S8x17x512x256, .bf16⟩
  | .hbm, ⟨3, _⟩ => ⟨S1024x36864, .f32⟩
  | .hbm, ⟨4, _⟩ => ⟨S36864x1024, .f32⟩
  | .hbm, ⟨5, _⟩ => ⟨S32768x1024, .f32⟩
  | .hbm, ⟨6, _⟩ => ⟨S8x4096x8x128, .f32⟩
  | .hbm, ⟨7, _⟩ => ⟨S8x4352x1024, .f32⟩
  | .hbm, ⟨8, _⟩ => ⟨S8x4352x8x128, .f32⟩
  | .hbm, ⟨9, _⟩ => ⟨S8x17x512x256, .f32⟩
  | .hbm, ⟨10, _⟩ => ⟨S8x17x256x512, .f32⟩
  | .hbm, ⟨11, _⟩ => ⟨S8x4352x8x64, .f32⟩
  | .hbm, ⟨12, _⟩ => ⟨S8x8x4096x4352, .f32⟩
  | .hbm, ⟨13, _⟩ => ⟨S_, .f32⟩
  | .hbm, ⟨14, _⟩ => ⟨S_, .f32⟩
  | .hbm, ⟨15, _⟩ => ⟨S8x8x4096x4352, .f32⟩
  | .hbm, ⟨16, _⟩ => ⟨S8x8x4096x4352, .f32⟩
  | .hbm, ⟨17, _⟩ => ⟨S_, .f32⟩
  | .hbm, ⟨18, _⟩ => ⟨S8x8x4096, .f32⟩
  | .hbm, ⟨19, _⟩ => ⟨S_, .f32⟩
  | .hbm, ⟨20, _⟩ => ⟨S8x8x4096, .f32⟩
  | .hbm, ⟨21, _⟩ => ⟨S8x8x4096, .f32⟩
  | .hbm, ⟨22, _⟩ => ⟨S8x8x4096x1, .f32⟩
  | .hbm, ⟨23, _⟩ => ⟨S8x8x4096x4352, .f32⟩
  | .hbm, ⟨24, _⟩ => ⟨S8x8x4096x4352, .f32⟩
  | .hbm, ⟨25, _⟩ => ⟨S8x8x4096x4352, .f32⟩
  | .hbm, ⟨26, _⟩ => ⟨S_, .f32⟩
  | .hbm, ⟨27, _⟩ => ⟨S8x8x4096, .f32⟩
  | .hbm, ⟨28, _⟩ => ⟨S8x8x4096x1, .f32⟩
  | .hbm, ⟨29, _⟩ => ⟨S8x8x4096x4352, .f32⟩
  | .hbm, ⟨30, _⟩ => ⟨S8x8x4096x4352, .f32⟩
  | .hbm, ⟨31, _⟩ => ⟨S8x8x64x4096, .f32⟩
  | .hbm, ⟨32, _⟩ => ⟨S8x4096x8x64, .f32⟩
  | .hbm, ⟨33, _⟩ => ⟨S32768x512, .f32⟩
  | .hbm, ⟨34, _⟩ => ⟨S32768x512, .bf16⟩
  | _, _ => ⟨S1024x36864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel2.lean ====
abbrev S608 : Shape := ⟨1, ![608]⟩
abbrev S1 : Shape := ⟨1, ![1]⟩
abbrev S155648x8x128 : Shape := ⟨3, ![155648, 8, 128]⟩
abbrev S32x1024x1024 : Shape := ⟨3, ![32, 1024, 1024]⟩
abbrev S32x1x1024 : Shape := ⟨3, ![32, 1, 1024]⟩
abbrev S256x8x128 : Shape := ⟨3, ![256, 8, 128]⟩
abbrev S1x1024x1024 : Shape := ⟨3, ![1, 1024, 1024]⟩
abbrev S1x1x1024 : Shape := ⟨3, ![1, 1, 1024]⟩
abbrev S2048x128 : Shape := ⟨2, ![2048, 128]⟩
abbrev S256x128 : Shape := ⟨2, ![256, 128]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 8
  | .vmem => 16
  | .smem => 2
  | _ => 0

abbrev bufTy : (tb : Table) → Fin (tcTables nBuf tb) → BufTy
  | .hbm, ⟨0, _⟩ => ⟨S155648x8x128, .f32⟩
  | .hbm, ⟨1, _⟩ => ⟨S32x1024x1024, .bf16⟩
  | .hbm, ⟨2, _⟩ => ⟨S32x1024x1024, .bf16⟩
  | .hbm, ⟨3, _⟩ => ⟨S32x1x1024, .f32⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S155648x8x128, .f32⟩
  | .local _ .vmem, ⟨0, _⟩ => ⟨S256x8x128, .f32⟩
  | .local _ .vmem, ⟨1, _⟩ => ⟨S256x8x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x8x128, .f32⟩
  | .local _ .vmem, ⟨15, _⟩ => ⟨S256x8x128, .f32⟩
  | .local _ .smem, ⟨0, _⟩ => ⟨S608, .i32⟩
  | .local _ .smem, ⟨1, _⟩ => ⟨S1, .i32⟩
  | _, _ => ⟨S155648x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S608 : Shape := ⟨1, ![608]⟩
abbrev S1 : Shape := ⟨1, ![1]⟩
abbrev S155648x8x128 : Shape := ⟨3, ![155648, 8, 128]⟩
abbrev S32x1024x1024 : Shape := ⟨3, ![32, 1024, 1024]⟩
abbrev S32x1x1024 : Shape := ⟨3, ![32, 1, 1024]⟩
abbrev S608x256x1024 : Shape := ⟨3, ![608, 256, 1024]⟩
abbrev S608x1 : Shape := ⟨2, ![608, 1]⟩
abbrev S608x1024x1024 : Shape := ⟨3, ![608, 1024, 1024]⟩
abbrev S608x1x1024 : Shape := ⟨3, ![608, 1, 1024]⟩
abbrev S_ : Shape := ⟨0, ![]⟩
abbrev S608x1x1 : Shape := ⟨3, ![608, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S608, .i32⟩
  | .hbm, ⟨1, _⟩ => ⟨S1, .i32⟩
  | .hbm, ⟨2, _⟩ => ⟨S155648x8x128, .f32⟩
  | .hbm, ⟨3, _⟩ => ⟨S32x1024x1024, .bf16⟩
  | .hbm, ⟨4, _⟩ => ⟨S32x1024x1024, .bf16⟩
  | .hbm, ⟨5, _⟩ => ⟨S32x1x1024, .f32⟩
  | .hbm, ⟨6, _⟩ => ⟨S32x1x1024, .f32⟩
  | .hbm, ⟨7, _⟩ => ⟨S32x1024x1024, .bf16⟩
  | .hbm, ⟨8, _⟩ => ⟨S32x1x1024, .f32⟩
  | .hbm, ⟨9, _⟩ => ⟨S608x256x1024, .f32⟩
  | .hbm, ⟨10, _⟩ => ⟨S32x1024x1024, .f32⟩
  | .hbm, ⟨11, _⟩ => ⟨S608x1, .i32⟩
  | .hbm, ⟨12, _⟩ => ⟨S608x1024x1024, .f32⟩
  | .hbm, ⟨13, _⟩ => ⟨S608x256x1024, .f32⟩
  | .hbm, ⟨14, _⟩ => ⟨S608x1, .i32⟩
  | .hbm, ⟨15, _⟩ => ⟨S608x1x1024, .f32⟩
  | .hbm, ⟨16, _⟩ => ⟨S608x256x1024, .f32⟩
  | .hbm, ⟨17, _⟩ => ⟨S608x256x1024, .f32⟩
  | .hbm, ⟨18, _⟩ => ⟨S32x1024x1024, .f32⟩
  | .hbm, ⟨19, _⟩ => ⟨S608x1, .i32⟩
  | .hbm, ⟨20, _⟩ => ⟨S608x1024x1024, .f32⟩
  | .hbm, ⟨21, _⟩ => ⟨S608x256x1024, .f32⟩
  | .hbm, ⟨22, _⟩ => ⟨S608x1, .i32⟩
  | .hbm, ⟨23, _⟩ => ⟨S608x1x1024, .f32⟩
  | .hbm, ⟨24, _⟩ => ⟨S608x256x1024, .f32⟩
  | .hbm, ⟨25, _⟩ => ⟨S608x256x1024, .f32⟩
  | .hbm, ⟨26, _⟩ => ⟨S_, .f32⟩
  | .hbm, ⟨27, _⟩ => ⟨S608x256x1024, .f32⟩
  | .hbm, ⟨28, _⟩ => ⟨S608x256x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S608x256x1024, .f32⟩
  | .hbm, ⟨33, _⟩ => ⟨S608x256x1024, .f32⟩
  | .hbm, ⟨34, _⟩ => ⟨S_, .f32⟩
  | .hbm, ⟨35, _⟩ => ⟨S608x256x1024, .f32⟩
  | .hbm, ⟨36, _⟩ => ⟨S608x256x1024, .f32⟩
  | .hbm, ⟨37, _⟩ => ⟨S_, .f32⟩
  | .hbm, ⟨38, _⟩ => ⟨S608x256x1024, .f32⟩
  | .hbm, ⟨39, _⟩ => ⟨S608x256x1024, .f32⟩
  | .hbm, ⟨40, _⟩ => ⟨S608x256x1024, .f32⟩
  | .hbm, ⟨41, _⟩ => ⟨S608x256x1024, .f32⟩
  | .hbm, ⟨42, _⟩ => ⟨S_, .f32⟩
  | .hbm, ⟨43, _⟩ => ⟨S608x256x1024, .f32⟩
  | .hbm, ⟨44, _⟩ => ⟨S608x256x1024, .f32⟩
  | .hbm, ⟨45, _⟩ => ⟨S_, .f32⟩
  | .hbm, ⟨46, _⟩ => ⟨S608x256x1024, .f32⟩
  | .hbm, ⟨47, _⟩ => ⟨S608x256x1024, .f32⟩
  | .hbm, ⟨48, _⟩ => ⟨S608x256x1024, .f32⟩
  | .hbm, ⟨49, _⟩ => ⟨S_, .f32⟩
  | .hbm, ⟨50, _⟩ => ⟨S608x256x1024, .f32⟩
  | .hbm, ⟨51, _⟩ => ⟨S608x256x1024, .f32⟩
  | .hbm, ⟨52, _⟩ => ⟨S608x256x1024, .f32⟩
  | .hbm, ⟨53, _⟩ => ⟨S32x1024x1024, .f32⟩
  | .hbm, ⟨54, _⟩ => ⟨S608x1, .i32⟩
  | .hbm, ⟨55, _⟩ => ⟨S608x1024x1024, .f32⟩
  | .hbm, ⟨56, _⟩ => ⟨S608x256x1024, .f32⟩
  | .hbm, ⟨57, _⟩ => ⟨S608x1, .i32⟩
  | .hbm, ⟨58, _⟩ => ⟨S608x1x1024, .f32⟩
  | .hbm, ⟨59, _⟩ => ⟨S608x256x1024, .f32⟩
  | .hbm, ⟨60, _⟩ => ⟨S608x256x1024, .f32⟩
  | .hbm, ⟨61, _⟩ => ⟨S608, .i32⟩
  | .hbm, ⟨62, _⟩ => ⟨S608x1x1, .i32⟩
  | .hbm, ⟨63, _⟩ => ⟨S_, .i32⟩
  | .hbm, ⟨64, _⟩ => ⟨S608x1x1, .i32⟩
  | .hbm, ⟨65, _⟩ => ⟨S608x1x1, .i1⟩
  | .hbm, ⟨66, _⟩ => ⟨S_, .f32⟩
  | .hbm, ⟨67, _⟩ => ⟨S_, .f32⟩
  | .hbm, ⟨68, _⟩ => ⟨S608x256x1024, .i1⟩
  | .hbm, ⟨69, _⟩ => ⟨S608x256x1024, .f32⟩
  | .hbm, ⟨70, _⟩ => ⟨S608x256x1024, .f32⟩
  | .hbm, ⟨71, _⟩ => ⟨S155648x8x128, .f32⟩
  | _, _ => ⟨S608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_cst_1 : Ref sig .tc := ⟨.hbm, 30, rfl⟩
abbrev main_call4_v0 : Ref sig .tc := ⟨.hbm, 31, rfl⟩
abbrev main_call4_v1 : Ref sig .tc := ⟨.hbm, 32, rfl⟩
abbrev main_call4_v2 : Ref sig .tc := ⟨.hbm, 33, rfl⟩
abbrev main_call4_v3 : Ref sig .tc := ⟨.hbm, 34, rfl⟩
abbrev main_call4_v4 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call5_v0 : Ref sig .tc := ⟨.hbm, 54, rfl⟩
abbrev main_v29 : Ref sig .tc := ⟨.hbm, 55, rfl⟩
abbrev main_v30 : Ref sig .tc := ⟨.hbm, 56, rfl⟩
abbrev main_call6_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Kernel3.lean ====
abbrev S36864x1024 : Shape := ⟨2, ![36864, 1024]⟩
abbrev S16x1x6144 : Shape := ⟨3, ![16, 1, 6144]⟩
abbrev S1x1024 : Shape := ⟨2, ![1, 1024]⟩
abbrev S1024x1664 : Shape := ⟨2, ![1024, 1664]⟩
abbrev S1x256 : Shape := ⟨2, ![1, 256]⟩
abbrev S1024x256 : Shape := ⟨2, ![1024, 256]⟩
abbrev S1x128 : Shape := ⟨2, ![1, 128]⟩
abbrev S128x4608 : Shape := ⟨2, ![128, 4608]⟩
abbrev S4608x128 : Shape := ⟨2, ![4608, 128]⟩
abbrev S36864x768 : Shape := ⟨2, ![36864, 768]⟩
abbrev S36864x256 : Shape := ⟨2, ![36864, 256]⟩
abbrev S1024x36864 : Shape := ⟨2, ![1024, 36864]⟩
abbrev S36864x128 : Shape := ⟨2, ![36864, 128]⟩
abbrev S36864x32 : Shape := ⟨2, ![36864, 32]⟩
abbrev S512x1024 : Shape := ⟨2, ![512, 1024]⟩
abbrev S1x1x6144 : Shape := ⟨3, ![1, 1, 6144]⟩
abbrev S128x512 : Shape := ⟨2, ![128, 512]⟩
abbrev S512x128 : Shape := ⟨2, ![512, 128]⟩
abbrev S512x768 : Shape := ⟨2, ![512, 768]⟩
abbrev S512x256 : Shape := ⟨2, ![512, 256]⟩
abbrev S1024x512 : Shape := ⟨2, ![1024, 512]⟩
abbrev S512x32 : Shape := ⟨2, ![512, 32]⟩
abbrev S1x6144 : Shape := ⟨2, ![1, 6144]⟩
abbrev S512 : Shape := ⟨1, ![512]⟩
abbrev S512x1 : Shape := ⟨2, ![512, 1]⟩
abbrev S512x1664 : Shape := ⟨2, ![512, 1664]⟩

abbrev nBuf : Space → Nat
  | .hbm => 18
  | .vmem => 30
  | .smem => 0
  | _ => 0

abbrev bufTy : (tb : Table) → Fin (tcTables nBuf tb) → BufTy
  | .hbm, ⟨0, _⟩ => ⟨S36864x1024, .f32⟩
  | .hbm, ⟨1, _⟩ => ⟨S16x1x6144, .f32⟩
  | .hbm, ⟨2, _⟩ => ⟨S1x1024, .f32⟩
  | .hbm, ⟨3, _⟩ => ⟨S1024x1664, .bf16⟩
  | .hbm, ⟨4, _⟩ => ⟨S1x256, .f32⟩
  | .hbm, ⟨5, _⟩ => ⟨S1024x256, .bf16⟩
  | .hbm, ⟨6, _⟩ => ⟨S1024x256, .bf16⟩
  | .hbm, ⟨7, _⟩ => ⟨S1x128, .f32⟩
  | .hbm, ⟨8, _⟩ => ⟨S128x4608, .f32⟩
  | .hbm, ⟨9, _⟩ => ⟨S128x4608, .f32⟩
  | .hbm, ⟨10, _⟩ => ⟨S4608x128, .f32⟩
  | .hbm, ⟨11, _⟩ => ⟨S4608x128, .f32⟩
  | .hbm, ⟨12, _⟩ => ⟨S36864x768, .f32⟩
  | .hbm, ⟨13, _⟩ => ⟨S36864x256, .f32⟩
  | .hbm, ⟨14, _⟩ => ⟨S1024x36864, .bf16⟩
  | .hbm, ⟨15, _⟩ => ⟨S36864x128, .f32⟩
  | .hbm, ⟨16, _⟩ => ⟨S36864x32, .f32⟩
  | .hbm, ⟨17, _⟩ => ⟨S36864x128, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x1664, .bf16⟩
  | .local _ .vmem, ⟨6, _⟩ => ⟨S1x256, .f32⟩
  | .local _ .vmem, ⟨7, _⟩ => ⟨S1024x256, .bf16⟩
  | .local _ .vmem, ⟨8, _⟩ => ⟨S1024x256, .bf16⟩
  | .local _ .vmem, ⟨9, _⟩ => ⟨S1x128, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x768, .f32⟩
  | .local _ .vmem, ⟨19, _⟩ => ⟨S512x768, .f32⟩
  | .local _ .vmem, ⟨20, _⟩ => ⟨S512x256, .f32⟩
  | .local _ .vmem, ⟨21, _⟩ => ⟨S512x256, .f32⟩
  | .local _ .vmem, ⟨22, _⟩ => ⟨S1024x512, .bf16⟩
  | .local _ .vmem, ⟨23, _⟩ => ⟨S1024x512, .bf16⟩
  | .local _ .vmem, ⟨24, _⟩ => ⟨S512x128, .f32⟩
  | .local _ .vmem, ⟨25, _⟩ => ⟨S512x128, .f32⟩
  | .local _ .vmem, ⟨26, _⟩ => ⟨S512x32, .f32⟩
  | .local _ .vmem, ⟨27, _⟩ => ⟨S512x32, .f32⟩
  | .local _ .vmem, ⟨28, _⟩ => ⟨S512x128, .f32⟩
  | .local _ .vmem, ⟨29, _⟩ => ⟨S512x128, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![c0_i32_4.toNat, v11.toNat]

def cc0_transform_9 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![c0_i32_4.toNat, v11.toNat]

def cc0_transform_10 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S36864x1024 : Shape := ⟨2, ![36864, 1024]⟩
abbrev S16x1x6144 : Shape := ⟨3, ![16, 1, 6144]⟩
abbrev S1x1024 : Shape := ⟨2, ![1, 1024]⟩
abbrev S1024x1664 : Shape := ⟨2, ![1024, 1664]⟩
abbrev S1x256 : Shape := ⟨2, ![1, 256]⟩
abbrev S1024x256 : Shape := ⟨2, ![1024, 256]⟩
abbrev S1x128 : Shape := ⟨2, ![1, 128]⟩
abbrev S128x4608 : Shape := ⟨2, ![128, 4608]⟩
abbrev S4608x128 : Shape := ⟨2, ![4608, 128]⟩
abbrev S8x1x6144 : Shape := ⟨3, ![8, 1, 6144]⟩
abbrev S8x4096x6144 : Shape := ⟨3, ![8, 4096, 6144]⟩
abbrev S1x1x6144 : Shape := ⟨3, ![1, 1, 6144]⟩
abbrev S1x6144 : Shape := ⟨2, ![1, 6144]⟩
abbrev S4096x6144 : Shape := ⟨2, ![4096, 6144]⟩
abbrev S32768x6144 : Shape := ⟨2, ![32768, 6144]⟩
abbrev S36864x6144 : Shape := ⟨2, ![36864, 6144]⟩
abbrev S_ : Shape := ⟨0, ![]⟩
abbrev S36864 : Shape := ⟨1, ![36864]⟩
abbrev S36864x1 : Shape := ⟨2, ![36864, 1]⟩
abbrev S36864x1664 : Shape := ⟨2, ![36864, 1664]⟩
abbrev S36864x256 : Shape := ⟨2, ![36864, 256]⟩
abbrev S256x1024 : Shape := ⟨2, ![256, 1024]⟩
abbrev S36864x8x128 : Shape := ⟨3, ![36864, 8, 128]⟩
abbrev S4096x128 : Shape := ⟨2, ![4096, 128]⟩
abbrev S1x4096x128 : Shape := ⟨3, ![1, 4096, 128]⟩
abbrev S8x4096x128 : Shape := ⟨3, ![8, 4096, 128]⟩
abbrev S512x128 : Shape := ⟨2, ![512, 128]⟩
abbrev S1x512x128 : Shape := ⟨3, ![1, 512, 128]⟩
abbrev S8x512x128 : Shape := ⟨3, ![8, 512, 128]⟩
abbrev S32768x128 : Shape := ⟨2, ![32768, 128]⟩
abbrev S36864x128 : Shape := ⟨2, ![36864, 128]⟩
abbrev S36864x1x128 : Shape := ⟨3, ![36864, 1, 128]⟩
abbrev S36864x768 : Shape := ⟨2, ![36864, 768]⟩
abbrev S1024x36864 : Shape := ⟨2, ![1024, 36864]⟩
abbrev S36864x32 : Shape := ⟨2, ![36864, 32]⟩

abbrev nBuf : Space → Nat
  | .hbm => 139
  | .vmem => 0
  | .smem => 0
  | _ => 0

abbrev hbmTy0_0 (i : Nat) : BufTy := match i % 128 with
  | 0 => ⟨S36864x1024, .f32⟩
  | 1 => ⟨S16x1x6144, .f32⟩
  | 2 => ⟨S1x1024, .f32⟩
  | 3 => ⟨S1024x1664, .bf16⟩
  | 4 => ⟨S1x256, .f32⟩
  | 5 => ⟨S1024x256, .bf16⟩
  | 6 => ⟨S1024x256, .bf16⟩
  | 7 => ⟨S1x128, .f32⟩
  | 8 => ⟨S128x4608, .f32⟩
  | 9 => ⟨S128x4608, .f32⟩
  | 10 => ⟨S4608x128, .f32⟩
  | 11 => ⟨S4608x128, .f32⟩
  | 12 => ⟨S8x1x6144, .f32⟩
  | 13 => ⟨S8x4096x6144, .f32⟩
  | 14 => ⟨S1x1x6144, .f32⟩
  | 15 => ⟨S1x6144, .f32⟩
  | 16 => ⟨S4096x6144, .f32⟩
  | 17 => ⟨S32768x6144, .f32⟩
  | 18 => ⟨S36864x6144, .f32⟩
  | 19 => ⟨S36864x1024, .f32⟩
  | 20 => ⟨S_, .f32⟩
  | 21 => ⟨S36864, .f32⟩
  | 22 => ⟨S36864x1, .f32⟩
  | 23 => ⟨S_, .f32⟩
  | 24 => ⟨S36864x1, .f32⟩
  | 25 => ⟨S36864x1, .f32⟩
  | 26 => ⟨S_, .f32⟩
  | 27 => ⟨S36864x1, .f32⟩
  | 28 => ⟨S36864x1, .f32⟩
  | 29 => ⟨S36864x1, .f32⟩
  | 30 => ⟨S36864x1024, .f32⟩
  | 31 => ⟨S36864x1024, .f32⟩
  | 32 => ⟨S36864x1024, .f32⟩
  | 33 => ⟨S36864x1024, .f32⟩
  | 34 => ⟨S36864x1024, .f32⟩
  | 35 => ⟨S_, .f32⟩
  | 36 => ⟨S36864x1024, .f32⟩
  | 37 => ⟨S36864x1024, .f32⟩
  | 38 => ⟨S36864x1024, .f32⟩
  | 39 => ⟨S36864x1024, .f32⟩
  | 40 => ⟨S36864x1024, .f32⟩
  | 41 => ⟨S1024x1664, .f32⟩
  | 42 => ⟨S36864x1664, .f32⟩
  | 43 => ⟨S36864x256, .f32⟩
  | 44 => ⟨S36864x256, .f32⟩
  | 45 => ⟨S_, .f32⟩
  | 46 => ⟨S36864, .f32⟩
  | 47 => ⟨S36864x1, .f32⟩
  | 48 => ⟨S_, .f32⟩
  | 49 => ⟨S36864x1, .f32⟩
  | 50 => ⟨S36864x1, .f32⟩
  | 51 => ⟨S_, .f32⟩
  | 52 => ⟨S36864x1, .f32⟩
  | 53 => ⟨S36864x1, .f32⟩
  | 54 => ⟨S36864x1, .f32⟩
  | 55 => ⟨S36864x256, .f32⟩
  | 56 => ⟨S36864x256, .f32⟩
  | 57 => ⟨S36864x256, .f32⟩
  | 58 => ⟨S36864x256, .f32⟩
  | 59 => ⟨S1024x256, .f32⟩
  | 60 => ⟨S256x1024, .f32⟩
  | 61 => ⟨S36864x1024, .f32⟩
  | 62 => ⟨S36864x8x128, .f32⟩
  | 63 => ⟨S1024x256, .f32⟩
  | 64 => ⟨S256x1024, .f32⟩
  | 65 => ⟨S36864x1024, .f32⟩
  | 66 => ⟨S36864x8x128, .f32⟩
  | 67 => ⟨S4608x128, .f32⟩
  | 68 => ⟨S4096x128, .f32⟩
  | 69 => ⟨S1x4096x128, .f32⟩
  | 70 => ⟨S8x4096x128, .f32⟩
  | 71 => ⟨S512x128, .f32⟩
  | 72 => ⟨S1x512x128, .f32⟩
  | 73 => ⟨S8x512x128, .f32⟩
  | 74 => ⟨S32768x128, .f32⟩
  | 75 => ⟨S4096x128, .f32⟩
  | 76 => ⟨S36864x128, .f32⟩
  | 77 => ⟨S36864x1x128, .f32⟩
  | 78 => ⟨S36864x8x128, .f32⟩
  | 79 => ⟨S36864x8x128, .f32⟩
  | 80 => ⟨S4608x128, .f32⟩
  | 81 => ⟨S4096x128, .f32⟩
  | 82 => ⟨S1x4096x128, .f32⟩
  | 83 => ⟨S8x4096x128, .f32⟩
  | 84 => ⟨S512x128, .f32⟩
  | 85 => ⟨S1x512x128, .f32⟩
  | 86 => ⟨S8x512x128, .f32⟩
  | 87 => ⟨S32768x128, .f32⟩
  | 88 => ⟨S4096x128, .f32⟩
  | 89 => ⟨S36864x128, .f32⟩
  | 90 => ⟨S36864x1x128, .f32⟩
  | 91 => ⟨S36864x8x128, .f32⟩
  | 92 => ⟨S36864x8x128, .f32⟩
  | 93 => ⟨S36864x8x128, .f32⟩
  | 94 => ⟨S36864x128, .f32⟩
  | 95 => ⟨S36864x128, .f32⟩
  | 96 => ⟨S36864x768, .f32⟩
  | 97 => ⟨S36864x256, .f32⟩
  | 98 => ⟨S36864x1024, .f32⟩
  | 99 => ⟨S1024x36864, .f32⟩
  | 100 => ⟨S1024x36864, .bf16⟩
  | 101 => ⟨S36864x128, .f32⟩
  | 102 => ⟨S36864x128, .f32⟩
  | 103 => ⟨S_, .f32⟩
  | 104 => ⟨S36864, .f32⟩
  | 105 => ⟨S36864x1, .f32⟩
  | 106 => ⟨S_, .f32⟩
  | 107 => ⟨S36864x1, .f32⟩
  | 108 => ⟨S36864x1, .f32⟩
  | 109 => ⟨S_, .f32⟩
  | 110 => ⟨S36864x1, .f32⟩
  | 111 => ⟨S36864x1, .f32⟩
  | 112 => ⟨S36864x1, .f32⟩
  | 113 => ⟨S36864x128, .f32⟩
  | 114 => ⟨S36864x128, .f32⟩
  | 115 => ⟨S36864x128, .f32⟩
  | 116 => ⟨S36864x128, .f32⟩
  | 117 => ⟨S36864x32, .f32⟩
  | 118 => ⟨S4096x128, .f32⟩
  | 119 => ⟨S1x4096x128, .f32⟩
  | 120 => ⟨S8x4096x128, .f32⟩
  | 121 => ⟨S512x128, .f32⟩
  | 122 => ⟨S1x512x128, .f32⟩
  | 123 => ⟨S8x512x128, .f32⟩
  | 124 => ⟨S32768x128, .f32⟩
  | 125 => ⟨S4096x128, .f32⟩
  | 126 => ⟨S36864x128, .f32⟩
  | 127 => ⟨S36864x128, .f32⟩
  | _ => ⟨S36864x1024, .f32⟩

abbrev hbmTy0_1 (i : Nat) : BufTy := match i % 128 with
  | 0 => ⟨S4096x128, .f32⟩
  | 1 => ⟨S1x4096x128, .f32⟩
  | 2 => ⟨S8x4096x128, .f32⟩
  | 3 => ⟨S512x128, .f32⟩
  | 4 => ⟨S1x512x128, .f32⟩
  | 5 => ⟨S8x512x128, .f32⟩
  | 6 => ⟨S32768x128, .f32⟩
  | 7 => ⟨S4096x128, .f32⟩
  | 8 => ⟨S36864x128, .f32⟩
  | 9 => ⟨S36864x128, .f32⟩
  | 10 => ⟨S36864x128, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_6 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_cst_8 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩

abbrev nD : Nat := 1
abbrev τ : Topo := Topo.v7x

variable {F : FTy → Type} [FloatOps F]
-- ==== Proof.KernelFrame.lean ====
/-
  The frame of the kernel at the machine's words: the body runs on whole staging buffers and hands each back, whatever it
  leaves in the output's, so the launch ends without fault with the arguments as they were and every counter at zero.
-/
module

public import proofs.«01_k».proof.Proof.Gen.Kernel.Frame.Runs
public import Idealize.ShloMosaic.Lib.Claim

@[expose] public section

set_option maxRecDepth 16384

noncomputable section

namespace Cert.AttnFrame

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body runs: it returns the inputs' buffers as they were, and the others at some contents. -/
theorem body_runs (c : Dev nD) (i : grid0.Coords) (arg3 : Memref sig .tc .vmem S256x512 .bf16) (harg3 : arg3.IsWhole) (arg4 : Memref sig .tc .vmem S1x4352x256 .bf16) (harg4 : arg4.IsWhole) (arg5 : Memref sig .tc .vmem S1x17x128x256 .bf16) (harg5 : arg5.IsWhole) (arg6 : Memref sig .tc .vmem S512x128 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x80x256 .f32) (harg11 : arg11.IsWhole)
    (x0 : Vec F S256x512 .bf16) (x1 : Vec F S1x4352x256 .bf16) (x2 : Vec F S1x17x128x256 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11) K := by
    intro E K
    simp only [cc0_mla_attention_eq_skeleton]; unfold cc0_mla_attention_skel
    simp only [k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output, of whose contents nothing is said. -/
def forgets0 : Fin 4 → Bool := fun w => w.val == 3

/-- The proof data: the arrays as the region finds them, each input's buffer at its block after a point, the output unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are the ones at entry. -/
theorem A_eq (c : Dev nD) (w : Fin cfg0.W) : (dats m 0 c).A w = V m c (Pipeline.arrRef spec0 w) := by
  dsimp only [dats]

/-- What the body leaves in the inputs' buffers. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply ((body_runs c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

/-- The row of the body table. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- THE LAUNCH, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch ends, with every input array as it was. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c))⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AttnFrame

end
-- ==== Proof.Run.lean ====
/-
  The kernel's body run once on whole staging buffers: what it leaves in the output's buffer, as the pieces stored (last
  first).  The pieces are read off the run, and as the run finds them they name what the second pair of score buffers held
  at the start, which the body never reads; so the witness here is a function of those contents.
-/
module

public import proofs.«01_k».proof.Proof.Gen.KernelIdeal.Frame.Runs

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body's stores leave in the output's buffer, with the proof that it runs. -/
def bodyRun (c : Dev nD) (i : grid0.Coords) (arg3 : Memref sig .tc .vmem S256x512 .bf16) (harg3 : arg3.IsWhole) (arg4 : Memref sig .tc .vmem S1x4352x256 .bf16) (harg4 : arg4.IsWhole) (arg5 : Memref sig .tc .vmem S1x17x128x256 .bf16) (harg5 : arg5.IsWhole) (arg6 : Memref sig .tc .vmem S512x128 .bf16) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x80x256 .f32) (harg11 : arg11.IsWhole)
    (x0 : Vec F S256x512 .bf16) (x1 : Vec F S1x4352x256 .bf16) (x2 : Vec F S1x17x128x256 .bf16) :
    { L3 : BufTy.Contents (Elt F) arg8.view.ty → BufTy.Contents (Elt F) arg10.view.ty → List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ g8 g10 f, arg6.view.loc (c : Thread nD τ) ↦[arg6.view.set]{fullShare} arg6.view.writes (Elt F) f (L3 g8 g10)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_mla_attention i arg3 harg3 arg4 harg4 arg5 harg5 arg6 harg6 arg7 harg7 arg8 harg8 arg9 harg9 arg10 harg10 arg11 harg11) K } := by
  refine ⟨?_, fun E K => ?run⟩
  case run =>
    simp only [cc0_mla_attention_eq_skeleton]; unfold cc0_mla_attention_skel
    simp only [k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists fs1, fs3, _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Attn

end
-- ==== Proof.Block.lean ====
/-
  What one grid point computes with, named: the blocks of keys, queries and values it reads, and for each of its four
  streams (a head of the pair and a half of the block of queries) the scores of one chunk of keys, their greatest by
  query, the greatest so far, and the running sums.  Then the rules that fold what the body computes back to these names.
-/
module

public import proofs.«01_k».proof.Proof.Gen.KernelIdeal.Skeleton
public import Idealize.ShloMosaic.Lib.Pointwise
public import Idealize.ShloMosaic.Lib.WholeRead
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe

variable {F : FTy → Type} [FloatOps F]
variable (x0 : Vec F S256x512 .bf16) (x1 : Vec F S1x4352x256 .bf16) (x2 : Vec F S1x17x128x256 .bf16)

/-! ## The blocks read -/

/-- Chunk `n` of the keys of head `h` of the pair. -/
def kBlk (h n : ℕ) : Vec F S1x256x128 .bf16 := fun j =>
  x1 (ix3 0 ⟨(256 * n + (j 1).val) % 4352, Nat.mod_lt _ (by decide)⟩ ⟨(128 * h + (j 2).val) % 256, Nat.mod_lt _ (by decide)⟩)

/-- Half `q` of the queries of head `h` of the pair. -/
def qBlk (h q : ℕ) : Vec F S128x256 .bf16 := fun j =>
  x0 (ix2 ⟨(128 * h + (j 0).val) % 256, Nat.mod_lt _ (by decide)⟩ ⟨(256 * q + (j 1).val) % 512, Nat.mod_lt _ (by decide)⟩)

/-- Chunk `n` of the values of head `h` of the pair. -/
def vBlk (h n : ℕ) : Vec F S1x1x64x256 .bf16 := fun j =>
  x2 (ix4 0 ⟨n % 17, Nat.mod_lt _ (by decide)⟩ ⟨(64 * h + (j 2).val) % 128, Nat.mod_lt _ (by decide)⟩ (j 3))

theorem read_k (arg4 : Memref sig .tc .vmem S1x4352x256 .bf16) (h4 : arg4.IsWhole) (off : Fin 3 → ℕ)
    (inb : ∀ a, off a + S1x256x128.size a ≤ S1x4352x256.size a) (h n : ℕ) (ho : off = ![0, 256 * n, 128 * h]) :
    View.readAt (Elt F) arg4.view (Rect.unit (s := S1x4352x256) off S1x256x128.size inb).toLoadRect (h4.unread x1) = kBlk x1 h n := by
  subst ho
  funext j
  rw [h4.readAt_unread]
  refine congrArg x1 (funext fun a => Fin.ext ?_)
  have h1 := inb 1
  have h2 := inb 2
  have j1 := (j 1).isLt
  have j2 := (j 2).isLt
  have j0 := (j 0).isLt
  simp [ix3, S1x256x128, S1x4352x256, LoadRect.idx] at *
  fin_cases a
  · simp; omega
  · simp; omega
  · simp; omega

theorem read_q (arg3 : Memref sig .tc .vmem S256x512 .bf16) (h3 : arg3.IsWhole) (off : Fin 2 → ℕ)
    (inb : ∀ a, off a + S128x256.size a ≤ S256x512.size a) (h q : ℕ) (ho : off = ![128 * h, 256 * q]) :
    View.readAt (Elt F) arg3.view (Rect.unit (s := S256x512) off S128x256.size inb).toLoadRect (h3.unread x0) = qBlk x0 h q := by
  subst ho
  funext j
  rw [h3.readAt_unread]
  refine congrArg x0 (funext fun a => Fin.ext ?_)
  have h0 := inb 0
  have h1 := inb 1
  have j1 := (j 1).isLt
  have j0 := (j 0).isLt
  simp [ix2, S128x256, S256x512, LoadRect.idx] at *
  fin_cases a
  · simp; omega
  · simp; omega

theorem read_v (arg5 : Memref sig .tc .vmem S1x17x128x256 .bf16) (h5 : arg5.IsWhole) (off : Fin 4 → ℕ)
    (inb : ∀ a, off a + S1x1x64x256.size a ≤ S1x17x128x256.size a) (h n : ℕ) (ho : off = ![0, n, 64 * h, 0]) :
    View.readAt (Elt F) arg5.view (Rect.unit (s := S1x17x128x256) off S1x1x64x256.size inb).toLoadRect (h5.unread x2) = vBlk x2 h n := by
  subst ho
  funext j
  rw [h5.readAt_unread]
  refine congrArg x2 (funext fun a => Fin.ext ?_)
  have h1 := inb 1
  have h2 := inb 2
  have j1 := (j 1).isLt
  have j2 := (j 2).isLt
  have j0 := (j 0).isLt
  simp [ix4, S1x1x64x256, S1x17x128x256, LoadRect.idx] at *
  fin_cases a
  · simp; omega
  · simp; omega
  · simp; omega
  · simp

/-! ## One stream: head `h` of the pair, half `q` of the queries -/

/-- The scores of chunk `n`, key by query. -/
def vS (h q n : ℕ) : FVec F S256x256 .f32 :=
  matmul dot_S256x128_S128x256_S256x256_1_0_0_1_n_n none (shapeCast S256x128 (kBlk x1 h n) shapeCasts_S1x256x128_S256x128)
    (qBlk x0 h q) (constant S256x256 .f32 0x00000000#32)

/-- The greatest score of chunk `n`, by query. -/
def vP (h q n : ℕ) : FVec F S1x256 .f32 :=
  shapeCast S1x256 (multiReduction .maximumf [0] S256 (vS x0 x1 h q n) 0xFF800000#32 reduces_S256x256_S256 (.inl rfl) rfl)
    shapeCasts_S256_S1x256

/-- The greatest score of the chunks before `n`, by query. -/
def vM (h q : ℕ) : ℕ → FVec F S1x256 .f32
  | 0 => broadcast S1x256 (Scalar.ofBits .f32 0xFF800000#32)
  | n + 1 => maximumf (vM h q n) (vP x0 x1 h q n)

/-- The values of chunk `n`, with ones below. -/
def vV (h n : ℕ) : FVec F S80x256 .bf16 :=
  concatenate S80x256 0 [⟨S64x256, shapeCast S64x256 (vBlk x2 h n) shapeCasts_S1x1x64x256_S64x256⟩,
    ⟨S16x256, broadcast S16x256 (Scalar.ofBits .bf16 0x3F80#16)⟩] concatenates_S64x256_S16x256_S80x256_d0

/-- The running sums over the chunks before `n`: the values' in the first 64 rows, the weights' below. -/
def vAcc (h q : ℕ) : ℕ → FVec F S80x256 .f32
  | 0 => broadcast S80x256 (Scalar.ofBits .f32 0x00000000#32)
  | n + 1 => addf (mulf (broadcastTo S80x256 (exp2 (subf (vM x0 x1 h q n) (vM x0 x1 h q (n + 1)))) broadcasts_S1x256_S80x256)
        (vAcc h q n))
      (matmul dot_S80x256_S256x256_S80x256_1_0_0_1_n_n none (vV x2 h n)
        (truncf .bf16 (exp2 (subf (vS x0 x1 h q n) (broadcastTo S256x256 (vM x0 x1 h q (n + 1)) broadcasts_S1x256_S256x256)))
          bitsLt_bf16_f32)
        (constant S80x256 .f32 0x00000000#32))

/-! ## The rules -/

theorem fold_S (h q n : ℕ) :
    matmul dot_S256x128_S128x256_S256x256_1_0_0_1_n_n none (shapeCast S256x128 (kBlk x1 h n) shapeCasts_S1x256x128_S256x128)
      (qBlk x0 h q) (constant S256x256 .f32 0x00000000#32) = vS x0 x1 h q n := rfl

theorem fold_P (h q n : ℕ) :
    shapeCast S1x256 (multiReduction .maximumf [0] S256 (vS x0 x1 h q n) 0xFF800000#32 reduces_S256x256_S256 (.inl rfl) rfl)
      shapeCasts_S256_S1x256 = vP x0 x1 h q n := rfl

theorem fold_M (h q n : ℕ) : maximumf (vM x0 x1 h q n) (vP x0 x1 h q n) = vM x0 x1 h q (n + 1) := rfl

theorem fold_Acc (h q n : ℕ) :
    addf (mulf (broadcastTo S80x256 (exp2 (subf (vM x0 x1 h q n) (vM x0 x1 h q (n + 1)))) broadcasts_S1x256_S80x256)
        (vAcc x0 x1 x2 h q n))
      (matmul dot_S80x256_S256x256_S80x256_1_0_0_1_n_n none (vV x2 h n)
        (truncf .bf16 (exp2 (subf (vS x0 x1 h q n) (broadcastTo S256x256 (vM x0 x1 h q (n + 1)) broadcasts_S1x256_S256x256)))
          bitsLt_bf16_f32)
        (constant S80x256 .f32 0x00000000#32)) = vAcc x0 x1 x2 h q (n + 1) := rfl

theorem fold_Acc' (h q b n m : ℕ) (hm : m = n + 1) :
    addf (mulf (broadcastTo S80x256 (exp2 (subf (vM x0 x1 h q (b + n)) (vM x0 x1 h q (b + m)))) broadcasts_S1x256_S80x256)
        (vAcc x0 x1 x2 h q (b + n)))
      (matmul dot_S80x256_S256x256_S80x256_1_0_0_1_n_n none (vV x2 h (b + n))
        (truncf .bf16 (exp2 (subf (vS x0 x1 h q (b + n))
          (broadcastTo S256x256 (vM x0 x1 h q (b + m)) broadcasts_S1x256_S256x256))) bitsLt_bf16_f32)
        (constant S80x256 .f32 0x00000000#32)) = vAcc x0 x1 x2 h q (b + m) := by
  subst hm
  rfl

/-! ## The blocks a trip of the loop reads -/

variable (k : Fin k0_t1_loop.trips) (r : BitVec 32) (hr : r.toNat < 8)

include hr in
theorem read_k1 (arg4 : Memref sig .tc .vmem S1x4352x256 .bf16) (h4 : arg4.IsWhole)
    (inb : ∀ a, k0_off1 k r a + S1x256x128.size a ≤ S1x4352x256.size a) :
    View.readAt (Elt F) arg4.view (Rect.unit (s := S1x4352x256) (k0_off1 k r) S1x256x128.size inb).toLoadRect
      (h4.unread x1) = kBlk x1 0 (8 * k.val + r.toNat + 1) :=
  read_k x1 arg4 h4 _ inb 0 _ ((congrArg _ (show r = BitVec.ofNat 32 r.toNat by simp)).trans ((k0_off1_eq k ⟨r.toNat, hr⟩).trans (by simp; omega)))

include hr in
theorem read_k2 (arg4 : Memref sig .tc .vmem S1x4352x256 .bf16) (h4 : arg4.IsWhole)
    (inb : ∀ a, k0_off2 k r a + S1x256x128.size a ≤ S1x4352x256.size a) :
    View.readAt (Elt F) arg4.view (Rect.unit (s := S1x4352x256) (k0_off2 k r) S1x256x128.size inb).toLoadRect
      (h4.unread x1) = kBlk x1 1 (8 * k.val + r.toNat + 1) :=
  read_k x1 arg4 h4 _ inb 1 _ ((congrArg _ (show r = BitVec.ofNat 32 r.toNat by simp)).trans ((k0_off2_eq k ⟨r.toNat, hr⟩).trans (by simp; omega)))

include hr in
theorem read_v1 (arg5 : Memref sig .tc .vmem S1x17x128x256 .bf16) (h5 : arg5.IsWhole)
    (inb : ∀ a, k0_off3 k r a + S1x1x64x256.size a ≤ S1x17x128x256.size a) :
    View.readAt (Elt F) arg5.view (Rect.unit (s := S1x17x128x256) (k0_off3 k r) S1x1x64x256.size inb).toLoadRect
      (h5.unread x2) = vBlk x2 0 (8 * k.val + r.toNat) :=
  read_v x2 arg5 h5 _ inb 0 _ ((congrArg _ (show r = BitVec.ofNat 32 r.toNat by simp)).trans ((k0_off3_eq k ⟨r.toNat, hr⟩).trans (by simp)))

include hr in
theorem read_v2 (arg5 : Memref sig .tc .vmem S1x17x128x256 .bf16) (h5 : arg5.IsWhole)
    (inb : ∀ a, k0_off4 k r a + S1x1x64x256.size a ≤ S1x17x128x256.size a) :
    View.readAt (Elt F) arg5.view (Rect.unit (s := S1x17x128x256) (k0_off4 k r) S1x1x64x256.size inb).toLoadRect
      (h5.unread x2) = vBlk x2 1 (8 * k.val + r.toNat) :=
  read_v x2 arg5 h5 _ inb 1 _ ((congrArg _ (show r = BitVec.ofNat 32 r.toNat by simp)).trans ((k0_off4_eq k ⟨r.toNat, hr⟩).trans (by simp)))

/-- The values of a chunk with ones below, from any load that reads the chunk. -/
theorem fold_V (h n : ℕ) (w : Vec F S1x1x64x256 .bf16) (hw : w = vBlk x2 h n) :
    concatenate S80x256 0 [⟨S64x256, shapeCast S64x256 w shapeCasts_S1x1x64x256_S64x256⟩,
      ⟨S16x256, broadcast S16x256 (Scalar.ofBits (F := F) .bf16 0x3F80#16)⟩] concatenates_S64x256_S16x256_S80x256_d0 = vV x2 h n := by
  subst hw
  rfl

include hr in
theorem fold_V1 (arg5 : Memref sig .tc .vmem S1x17x128x256 .bf16) (h5 : arg5.IsWhole)
    (inb : ∀ a, k0_off3 k r a + S1x1x64x256.size a ≤ S1x17x128x256.size a) :
    concatenate S80x256 0 [⟨S64x256, shapeCast S64x256 (View.readAt (Elt F) arg5.view
        (Rect.unit (s := S1x17x128x256) (k0_off3 k r) S1x1x64x256.size inb).toLoadRect (h5.unread x2)) shapeCasts_S1x1x64x256_S64x256⟩,
      ⟨S16x256, broadcast S16x256 (Scalar.ofBits (F := F) .bf16 0x3F80#16)⟩] concatenates_S64x256_S16x256_S80x256_d0
      = vV x2 0 (8 * k.val + r.toNat) :=
  fold_V x2 0 _ _ (read_v1 x2 k r hr arg5 h5 inb)

include hr in
theorem fold_V2 (arg5 : Memref sig .tc .vmem S1x17x128x256 .bf16) (h5 : arg5.IsWhole)
    (inb : ∀ a, k0_off4 k r a + S1x1x64x256.size a ≤ S1x17x128x256.size a) :
    concatenate S80x256 0 [⟨S64x256, shapeCast S64x256 (View.readAt (Elt F) arg5.view
        (Rect.unit (s := S1x17x128x256) (k0_off4 k r) S1x1x64x256.size inb).toLoadRect (h5.unread x2)) shapeCasts_S1x1x64x256_S64x256⟩,
      ⟨S16x256, broadcast S16x256 (Scalar.ofBits (F := F) .bf16 0x3F80#16)⟩] concatenates_S64x256_S16x256_S80x256_d0
      = vV x2 1 (8 * k.val + r.toNat) :=
  fold_V x2 1 _ _ (read_v2 x2 k r hr arg5 h5 inb)

end Cert.Attn
-- ==== Proof.Trip.lean ====
/-
  One trip of the kernel's loop: eight chunks of keys are taken into the running sums of the four streams, and the scores
  of the chunk after them are left for the next trip.
-/
module

public import proofs.«01_k».proof.Proof.Gen.KernelIdeal.Loops
public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem

section Reads

variable {sig : RefSig} {κ : Kind} {sp : Space} {s : Shape} {e : EltTy} {Val : EltTy → Type}

/-- A load through the last store's rectangle reads what it stored. -/
theorem readAt_hit (v : View sig κ sp s e) (f : v.ty.Contents Val) (r : Rect s) (w : r.shape.Idx → Val e)
    (L : List (View.Piece Val s e)) : v.readAt Val r.toLoadRect (v.writes Val f (⟨r, w⟩ :: L)) = w :=
  funext fun j => View.read_writes_cons_emb v f r w L j

/-- A load apart from the last store reads the earlier stores. -/
theorem readAt_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext j
  have hj := LoadRect.idx_not_mem_of_disj h j
  rw [← Rect.map_emb_univ] at hj
  rw [View.readAt_apply, View.readAt_apply, View.writes_cons, View.read_slice_write_of_not_mem r _ _ _ hj]

end Reads

variable {F : FTy → Type} [FloatOps F]
variable (x0 : Vec F S256x512 .bf16) (x1 : Vec F S1x4352x256 .bf16) (x2 : Vec F S1x17x128x256 .bf16)

/-- The greatest scores so far of the four streams. -/
def vMs (n : ℕ) : FVec F S1x256 .f32 × FVec F S1x256 .f32 × FVec F S1x256 .f32 × FVec F S1x256 .f32 :=
  (vM x0 x1 0 0 n, vM x0 x1 1 0 n, vM x0 x1 0 1 n, vM x0 x1 1 1 n)

/-- The scratch holds, stream by stream, the scores of chunk `n`, their greatest, and the sums over the chunks before. -/
structure Held (arg7 : Memref sig .tc .vmem S4x256x256 .f32) (arg9 : Memref sig .tc .vmem S4x1x256 .f32)
    (arg11 : Memref sig .tc .vmem S4x80x256 .f32) (f7 : BufTy.Contents (Elt F) arg7.view.ty)
    (f9 : BufTy.Contents (Elt F) arg9.view.ty) (f11 : BufTy.Contents (Elt F) arg11.view.ty) (n : ℕ) : Prop where
  scores : ∀ (i : ℕ) (inb : ∀ a, (![i, 0, 0] : Fin 3 → ℕ) a + S1x256x256.size a ≤ S4x256x256.size a),
    View.readAt (Elt F) arg7.view (Rect.unit (s := S4x256x256) ![i, 0, 0] S1x256x256.size inb).toLoadRect f7
      = shapeCast S1x256x256 (vS x0 x1 (i % 2) (i / 2) n) shapeCasts_S256x256_S1x256x256
  maxima : ∀ (i : ℕ) (inb : ∀ a, (![i, 0, 0] : Fin 3 → ℕ) a + S1x1x256.size a ≤ S4x1x256.size a),
    View.readAt (Elt F) arg9.view (Rect.unit (s := S4x1x256) ![i, 0, 0] S1x1x256.size inb).toLoadRect f9
      = shapeCast S1x1x256 (vP x0 x1 (i % 2) (i / 2) n) shapeCasts_S1x256_S1x1x256
  sums : ∀ (i : ℕ) (inb : ∀ a, (![i, 0, 0] : Fin 3 → ℕ) a + S1x80x256.size a ≤ S4x80x256.size a),
    View.readAt (Elt F) arg11.view (Rect.unit (s := S4x80x256) ![i, 0, 0] S1x80x256.size inb).toLoadRect f11
      = shapeCast S1x80x256 (vAcc x0 x1 x2 (i % 2) (i / 2) n) shapeCasts_S80x256_S1x80x256

variable (𝒱 : Variants) (c : Dev nD) (bd : Option 𝒱.V) (i : grid0.Coords)
  (arg3 : Memref sig .tc .vmem S256x512 .bf16) (harg3 : arg3.IsWhole)
  (arg4 : Memref sig .tc .vmem S1x4352x256 .bf16) (harg4 : arg4.IsWhole)
  (arg5 : Memref sig .tc .vmem S1x17x128x256 .bf16) (harg5 : arg5.IsWhole)
  (arg6 : Memref sig .tc .vmem S512x128 .bf16) (harg6 : arg6.IsWhole)
  (arg7 : Memref sig .tc .vmem S4x256x256 .f32) (harg7 : arg7.IsWhole)
  (arg8 : Memref sig .tc .vmem S4x256x256 .f32) (harg8 : arg8.IsWhole)
  (arg9 : Memref sig .tc .vmem S4x1x256 .f32) (harg9 : arg9.IsWhole)
  (arg10 : Memref sig .tc .vmem S4x1x256 .f32) (harg10 : arg10.IsWhole)
  (arg11 : Memref sig .tc .vmem S4x80x256 .f32) (harg11 : arg11.IsWhole)
  (v5 v6 v7 v8 : FVec F S1x256 .f32) (v53 : FVec F S256x256 .f32) (k : Fin k0_t1_loop.trips)
  (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty)

set_option maxHeartbeats 4000000 in
/-- The maxima a trip ends with. -/
theorem trip_maxima (H : Held x0 x1 x2 arg7 arg9 arg11 f_arg7 f_arg9 f_arg11 (8 * k.val)) :
    tripR_k0_t1 (F := F) 𝒱 c bd i arg3 harg3 arg4 harg4 arg5 harg5 arg6 harg6 arg7 harg7 arg8 harg8 arg9 harg9 arg10 harg10 arg11 harg11 (broadcast S16x256 (Scalar.ofBits .bf16 0x3F80#16)) v5 v6 v7 v8 v53
    (harg3.unread x0) (harg4.unread x1) (harg5.unread x2) k (vMs x0 x1 (8 * k.val)) f_arg7 f_arg8 f_arg9 f_arg10 f_arg11
      = vMs x0 x1 (8 * k.val + 8) := by
  have hs := H.scores
  have hm := H.maxima
  have ha := H.sums
  unfold tripR_k0_t1 trip_k0_t1 vMs
  simp (disch := decide) only [
    trip_k0_t1.sl.arg12, trip_k0_t1.sl.r, trip_k0_t1.sl.v188, trip_k0_t1.sl.v189, trip_k0_t1.sl.v190,
    trip_k0_t1.sl.v191, trip_k0_t1.sl.v285, trip_k0_t1.sl.v309, trip_k0_t1.sl.v333, trip_k0_t1.sl.v342,
    trip_k0_t1.sl.v343, trip_k0_t1.sl.v344, trip_k0_t1.sl.v399, trip_k0_t1.sl.v404, trip_k0_t1.sl.v414,
    trip_k0_t1.sl.v423, trip_k0_t1.sl.v428, trip_k0_t1.sl.v438, trip_k0_t1.sl.v447, trip_k0_t1.sl.v452,
    trip_k0_t1.sl.v462, trip_k0_t1.sl.v471, trip_k0_t1.sl.v476, trip_k0_t1.sl.v486, trip_k0_t1.sl.v495,
    trip_k0_t1.sl.v496, trip_k0_t1.sl.v497, trip_k0_t1.sl.v552, trip_k0_t1.sl.v557, trip_k0_t1.sl.v567,
    trip_k0_t1.sl.v576, trip_k0_t1.sl.v581, trip_k0_t1.sl.v591, trip_k0_t1.sl.v600, trip_k0_t1.sl.v605,
    trip_k0_t1.sl.v615, trip_k0_t1.sl.v624, trip_k0_t1.sl.v629, trip_k0_t1.sl.v639, trip_k0_t1.sl.v648,
    trip_k0_t1.sl.v649, trip_k0_t1.sl.v650, trip_k0_t1.sl.v705, trip_k0_t1.sl.v710, trip_k0_t1.sl.v720,
    trip_k0_t1.sl.v729, trip_k0_t1.sl.v734, trip_k0_t1.sl.v744, trip_k0_t1.sl.v753, trip_k0_t1.sl.v758,
    trip_k0_t1.sl.v768, trip_k0_t1.sl.v777, trip_k0_t1.sl.v782, trip_k0_t1.sl.v792, trip_k0_t1.sl.v801,
    trip_k0_t1.sl.v802, trip_k0_t1.sl.v803, trip_k0_t1.sl.v858, trip_k0_t1.sl.v863, trip_k0_t1.sl.v873,
    trip_k0_t1.sl.v882, trip_k0_t1.sl.v887, trip_k0_t1.sl.v897, trip_k0_t1.sl.v906, trip_k0_t1.sl.v911,
    trip_k0_t1.sl.v921, trip_k0_t1.sl.v930, trip_k0_t1.sl.v935, trip_k0_t1.sl.v945, trip_k0_t1.sl.v954,
    trip_k0_t1.sl.v955, trip_k0_t1.sl.v956, trip_k0_t1.sl.v1011, trip_k0_t1.sl.v1016, trip_k0_t1.sl.v1026,
    trip_k0_t1.sl.v1035, trip_k0_t1.sl.v1040, trip_k0_t1.sl.v1050, trip_k0_t1.sl.v1059, trip_k0_t1.sl.v1064,
    trip_k0_t1.sl.v1074, trip_k0_t1.sl.v1083, trip_k0_t1.sl.v1088, trip_k0_t1.sl.v1098, trip_k0_t1.sl.v1107,
    trip_k0_t1.sl.v1108, trip_k0_t1.sl.v1109, trip_k0_t1.sl.v1164, trip_k0_t1.sl.v1169, trip_k0_t1.sl.v1179,
    trip_k0_t1.sl.v1188, trip_k0_t1.sl.v1193, trip_k0_t1.sl.v1203, trip_k0_t1.sl.v1212, trip_k0_t1.sl.v1217,
    trip_k0_t1.sl.v1227, trip_k0_t1.sl.v1236, trip_k0_t1.sl.v1241, trip_k0_t1.sl.v1251, trip_k0_t1.sl.v1260,
    trip_k0_t1.sl.v1261, trip_k0_t1.sl.v1262, trip_k0_t1.sl.v1317, trip_k0_t1.sl.v1322, trip_k0_t1.sl.v1332,
    trip_k0_t1.sl.v1341, trip_k0_t1.sl.v1346, trip_k0_t1.sl.v1356, trip_k0_t1.sl.v1365, trip_k0_t1.sl.v1370,
    trip_k0_t1.sl.v1380, trip_k0_t1.sl.v1389, trip_k0_t1.sl.v1394, trip_k0_t1.sl.v1404, trip_k0_t1.sl.HW_arg7_4,
    trip_k0_t1.sl.HW_arg7_8, trip_k0_t1.sl.HW_arg7_12, trip_k0_t1.sl.HW_arg8_4, trip_k0_t1.sl.HW_arg8_8,
    trip_k0_t1.sl.HW_arg8_12, trip_k0_t1.sl.HW_arg8_16, trip_k0_t1.sl.HW_arg9_4, trip_k0_t1.sl.HW_arg9_8,
    trip_k0_t1.sl.HW_arg9_12, trip_k0_t1.sl.HW_arg10_4, trip_k0_t1.sl.HW_arg10_8, trip_k0_t1.sl.HW_arg10_12,
    trip_k0_t1.sl.HW_arg10_16, trip_k0_t1.sl.HW_arg11_4, trip_k0_t1.sl.HW_arg11_5, trip_k0_t1.sl.HW_arg11_6,
    trip_k0_t1.sl.HW_arg11_7, trip_k0_t1.sl.HW_arg11_8, trip_k0_t1.sl.HW_arg11_9, trip_k0_t1.sl.HW_arg11_10,
    trip_k0_t1.sl.HW_arg11_11, trip_k0_t1.sl.HW_arg11_12, trip_k0_t1.sl.HW_arg11_13, trip_k0_t1.sl.HW_arg11_14,
    trip_k0_t1.sl.HW_arg11_15, trip_k0_t1.sl.HW_arg11_16, trip_k0_t1.sl.HW_arg11_17, trip_k0_t1.sl.HW_arg11_18,
    trip_k0_t1.sl.HW_arg11_19, trip_k0_t1.sl.HW_arg11_20, trip_k0_t1.sl.HW_arg11_21, trip_k0_t1.sl.HW_arg11_22,
    trip_k0_t1.sl.HW_arg11_23, trip_k0_t1.sl.HW_arg11_24, trip_k0_t1.sl.HW_arg11_25, trip_k0_t1.sl.HW_arg11_26,
    trip_k0_t1.sl.HW_arg11_27, trip_k0_t1.sl.HW_arg11_28, trip_k0_t1.sl.HW_arg11_29, trip_k0_t1.sl.HW_arg11_30,
    trip_k0_t1.sl.HW_arg11_31, trip_k0_t1.sl.cst_256, trip_k0_t1.sl.cst_822, trip_k0_t1.sl.r_1,
    trip_k0_t1.sl.r_2, trip_k0_t1.sl.r_3, trip_k0_t1.sl.r_4, trip_k0_t1.sl.r_5, trip_k0_t1.sl.r_6,
    trip_k0_t1.sl.r_7, trip_k0_t1.sl.r_8, trip_k0_t1.sl.r_9, trip_k0_t1.sl.r_10, trip_k0_t1.sl.r_11,
    trip_k0_t1.sl.r_12, trip_k0_t1.sl.r_13, trip_k0_t1.sl.r_14, trip_k0_t1.sl.r_15, trip_k0_t1.sl.r_16,
    trip_k0_t1.sl.r_17, trip_k0_t1.sl.r_18, trip_k0_t1.sl.r_19, trip_k0_t1.sl.r_20, trip_k0_t1.sl.r_21,
    trip_k0_t1.sl.r_22, trip_k0_t1.sl.r_23, trip_k0_t1.sl.r_24, trip_k0_t1.sl.r_25, trip_k0_t1.sl.r_26,
    trip_k0_t1.sl.r_27, trip_k0_t1.sl.r_28, trip_k0_t1.sl.r_29, trip_k0_t1.sl.r_30, trip_k0_t1.sl.r_31,
    trip_k0_t1.sl.r_32, trip_k0_t1.sl.r_33, trip_k0_t1.sl.r_34, trip_k0_t1.sl.r_35, trip_k0_t1.sl.r_36,
    trip_k0_t1.sl.r_37, trip_k0_t1.sl.r_38, trip_k0_t1.sl.r_39, trip_k0_t1.sl.r_40, trip_k0_t1.sl.r_41,
    trip_k0_t1.sl.r_42, trip_k0_t1.sl.r_43, trip_k0_t1.sl.r_44, trip_k0_t1.sl.r_45, trip_k0_t1.sl.r_46,
    trip_k0_t1.sl.r_47, trip_k0_t1.sl.r_48, trip_k0_t1.sl.r_49, trip_k0_t1.sl.r_50, trip_k0_t1.sl.r_51,
    trip_k0_t1.sl.r_52, trip_k0_t1.sl.r_53, trip_k0_t1.sl.r_54, trip_k0_t1.sl.r_55, trip_k0_t1.sl.r_56,
    trip_k0_t1.sl.r_57, trip_k0_t1.sl.r_58, trip_k0_t1.sl.r_59, trip_k0_t1.sl.r_60, trip_k0_t1.sl.r_61,
    trip_k0_t1.sl.r_62, trip_k0_t1.sl.r_63, trip_k0_t1.sl.r_64, trip_k0_t1.sl.r_65, trip_k0_t1.sl.r_66,
    trip_k0_t1.sl.r_67, trip_k0_t1.sl.r_68, trip_k0_t1.sl.r_69, trip_k0_t1.sl.r_70, trip_k0_t1.sl.r_71,
    trip_k0_t1.sl.r_72, trip_k0_t1.sl.r_73, trip_k0_t1.sl.r_74, trip_k0_t1.sl.r_75, trip_k0_t1.sl.r_76,
    trip_k0_t1.sl.r_77, trip_k0_t1.sl.r_78, trip_k0_t1.sl.r_79, trip_k0_t1.sl.r_80, trip_k0_t1.sl.r_81,
    trip_k0_t1.sl.r_82, trip_k0_t1.sl.r_83, trip_k0_t1.sl.r_84, trip_k0_t1.sl.r_85,
    k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230,
    k0_pay231, k0_pay232, k0_pay233, k0_pay234, k0_pay235, k0_pay236,
    View.readCov_cons_toLoadRect, View.readCov_skip, readAt_hit, readAt_skip, shapeCast_shapeCast, hs, hm, ha,
    read_k1 x1 k _ _ arg4 harg4, read_k2 x1 k _ _ arg4 harg4,
    read_q x0 arg3 harg3 _ _ 0 0 rfl, read_q x0 arg3 harg3 _ _ 0 1 rfl, read_q x0 arg3 harg3 _ _ 1 0 rfl,
    read_q x0 arg3 harg3 _ _ 1 1 rfl, fold_S x0 x1, fold_P x0 x1, fold_M x0 x1, fold_V1 x2 k _ _ arg5 harg5, fold_V2 x2 k _ _ arg5 harg5, fold_Acc x0 x1 x2,
    fold_Acc' x0 x1 x2, Nat.reduceMod, Nat.reduceDiv, Nat.add_zero,
    Nat.add_assoc, Nat.reduceAdd, BitVec.reduceToNat]

set_option maxHeartbeats 4000000 in
/-- What the scratch holds after a trip. -/
theorem trip_held (H : Held x0 x1 x2 arg7 arg9 arg11 f_arg7 f_arg9 f_arg11 (8 * k.val))
    (L7 : List (View.Piece (Elt F) S4x256x256 .f32)) (L8 : List (View.Piece (Elt F) S4x256x256 .f32))
    (L9 : List (View.Piece (Elt F) S4x1x256 .f32)) (L10 : List (View.Piece (Elt F) S4x1x256 .f32))
    (L11 : List (View.Piece (Elt F) S4x80x256 .f32))
    (hL : tripL_k0_t1 (F := F) 𝒱 c bd i arg3 harg3 arg4 harg4 arg5 harg5 arg6 harg6 arg7 harg7 arg8 harg8 arg9 harg9 arg10 harg10 arg11 harg11 (broadcast S16x256 (Scalar.ofBits .bf16 0x3F80#16)) v5 v6 v7 v8 v53
    (harg3.unread x0) (harg4.unread x1) (harg5.unread x2) k (vMs x0 x1 (8 * k.val)) f_arg7 f_arg8 f_arg9 f_arg10 f_arg11 = (L7, L8, L9, L10, L11)) :
    Held x0 x1 x2 arg7 arg9 arg11 (arg7.view.writes (Elt F) f_arg7 L7) (arg9.view.writes (Elt F) f_arg9 L9)
      (arg11.view.writes (Elt F) f_arg11 L11) (8 * k.val + 8) := by
  have hs := H.scores
  have hm := H.maxima
  have ha := H.sums
  unfold tripL_k0_t1 trip_k0_t1 vMs at hL
  simp (disch := decide) only [
    trip_k0_t1.sl.arg12, trip_k0_t1.sl.r, trip_k0_t1.sl.v188, trip_k0_t1.sl.v189, trip_k0_t1.sl.v190,
    trip_k0_t1.sl.v191, trip_k0_t1.sl.v285, trip_k0_t1.sl.v309, trip_k0_t1.sl.v333, trip_k0_t1.sl.v342,
    trip_k0_t1.sl.v343, trip_k0_t1.sl.v344, trip_k0_t1.sl.v399, trip_k0_t1.sl.v404, trip_k0_t1.sl.v414,
    trip_k0_t1.sl.v423, trip_k0_t1.sl.v428, trip_k0_t1.sl.v438, trip_k0_t1.sl.v447, trip_k0_t1.sl.v452,
    trip_k0_t1.sl.v462, trip_k0_t1.sl.v471, trip_k0_t1.sl.v476, trip_k0_t1.sl.v486, trip_k0_t1.sl.v495,
    trip_k0_t1.sl.v496, trip_k0_t1.sl.v497, trip_k0_t1.sl.v552, trip_k0_t1.sl.v557, trip_k0_t1.sl.v567,
    trip_k0_t1.sl.v576, trip_k0_t1.sl.v581, trip_k0_t1.sl.v591, trip_k0_t1.sl.v600, trip_k0_t1.sl.v605,
    trip_k0_t1.sl.v615, trip_k0_t1.sl.v624, trip_k0_t1.sl.v629, trip_k0_t1.sl.v639, trip_k0_t1.sl.v648,
    trip_k0_t1.sl.v649, trip_k0_t1.sl.v650, trip_k0_t1.sl.v705, trip_k0_t1.sl.v710, trip_k0_t1.sl.v720,
    trip_k0_t1.sl.v729, trip_k0_t1.sl.v734, trip_k0_t1.sl.v744, trip_k0_t1.sl.v753, trip_k0_t1.sl.v758,
    trip_k0_t1.sl.v768, trip_k0_t1.sl.v777, trip_k0_t1.sl.v782, trip_k0_t1.sl.v792, trip_k0_t1.sl.v801,
    trip_k0_t1.sl.v802, trip_k0_t1.sl.v803, trip_k0_t1.sl.v858, trip_k0_t1.sl.v863, trip_k0_t1.sl.v873,
    trip_k0_t1.sl.v882, trip_k0_t1.sl.v887, trip_k0_t1.sl.v897, trip_k0_t1.sl.v906, trip_k0_t1.sl.v911,
    trip_k0_t1.sl.v921, trip_k0_t1.sl.v930, trip_k0_t1.sl.v935, trip_k0_t1.sl.v945, trip_k0_t1.sl.v954,
    trip_k0_t1.sl.v955, trip_k0_t1.sl.v956, trip_k0_t1.sl.v1011, trip_k0_t1.sl.v1016, trip_k0_t1.sl.v1026,
    trip_k0_t1.sl.v1035, trip_k0_t1.sl.v1040, trip_k0_t1.sl.v1050, trip_k0_t1.sl.v1059, trip_k0_t1.sl.v1064,
    trip_k0_t1.sl.v1074, trip_k0_t1.sl.v1083, trip_k0_t1.sl.v1088, trip_k0_t1.sl.v1098, trip_k0_t1.sl.v1107,
    trip_k0_t1.sl.v1108, trip_k0_t1.sl.v1109, trip_k0_t1.sl.v1164, trip_k0_t1.sl.v1169, trip_k0_t1.sl.v1179,
    trip_k0_t1.sl.v1188, trip_k0_t1.sl.v1193, trip_k0_t1.sl.v1203, trip_k0_t1.sl.v1212, trip_k0_t1.sl.v1217,
    trip_k0_t1.sl.v1227, trip_k0_t1.sl.v1236, trip_k0_t1.sl.v1241, trip_k0_t1.sl.v1251, trip_k0_t1.sl.v1260,
    trip_k0_t1.sl.v1261, trip_k0_t1.sl.v1262, trip_k0_t1.sl.v1317, trip_k0_t1.sl.v1322, trip_k0_t1.sl.v1332,
    trip_k0_t1.sl.v1341, trip_k0_t1.sl.v1346, trip_k0_t1.sl.v1356, trip_k0_t1.sl.v1365, trip_k0_t1.sl.v1370,
    trip_k0_t1.sl.v1380, trip_k0_t1.sl.v1389, trip_k0_t1.sl.v1394, trip_k0_t1.sl.v1404, trip_k0_t1.sl.HW_arg7_4,
    trip_k0_t1.sl.HW_arg7_8, trip_k0_t1.sl.HW_arg7_12, trip_k0_t1.sl.HW_arg8_4, trip_k0_t1.sl.HW_arg8_8,
    trip_k0_t1.sl.HW_arg8_12, trip_k0_t1.sl.HW_arg8_16, trip_k0_t1.sl.HW_arg9_4, trip_k0_t1.sl.HW_arg9_8,
    trip_k0_t1.sl.HW_arg9_12, trip_k0_t1.sl.HW_arg10_4, trip_k0_t1.sl.HW_arg10_8, trip_k0_t1.sl.HW_arg10_12,
    trip_k0_t1.sl.HW_arg10_16, trip_k0_t1.sl.HW_arg11_4, trip_k0_t1.sl.HW_arg11_5, trip_k0_t1.sl.HW_arg11_6,
    trip_k0_t1.sl.HW_arg11_7, trip_k0_t1.sl.HW_arg11_8, trip_k0_t1.sl.HW_arg11_9, trip_k0_t1.sl.HW_arg11_10,
    trip_k0_t1.sl.HW_arg11_11, trip_k0_t1.sl.HW_arg11_12, trip_k0_t1.sl.HW_arg11_13, trip_k0_t1.sl.HW_arg11_14,
    trip_k0_t1.sl.HW_arg11_15, trip_k0_t1.sl.HW_arg11_16, trip_k0_t1.sl.HW_arg11_17, trip_k0_t1.sl.HW_arg11_18,
    trip_k0_t1.sl.HW_arg11_19, trip_k0_t1.sl.HW_arg11_20, trip_k0_t1.sl.HW_arg11_21, trip_k0_t1.sl.HW_arg11_22,
    trip_k0_t1.sl.HW_arg11_23, trip_k0_t1.sl.HW_arg11_24, trip_k0_t1.sl.HW_arg11_25, trip_k0_t1.sl.HW_arg11_26,
    trip_k0_t1.sl.HW_arg11_27, trip_k0_t1.sl.HW_arg11_28, trip_k0_t1.sl.HW_arg11_29, trip_k0_t1.sl.HW_arg11_30,
    trip_k0_t1.sl.HW_arg11_31, trip_k0_t1.sl.cst_256, trip_k0_t1.sl.cst_822, trip_k0_t1.sl.r_1,
    trip_k0_t1.sl.r_2, trip_k0_t1.sl.r_3, trip_k0_t1.sl.r_4, trip_k0_t1.sl.r_5, trip_k0_t1.sl.r_6,
    trip_k0_t1.sl.r_7, trip_k0_t1.sl.r_8, trip_k0_t1.sl.r_9, trip_k0_t1.sl.r_10, trip_k0_t1.sl.r_11,
    trip_k0_t1.sl.r_12, trip_k0_t1.sl.r_13, trip_k0_t1.sl.r_14, trip_k0_t1.sl.r_15, trip_k0_t1.sl.r_16,
    trip_k0_t1.sl.r_17, trip_k0_t1.sl.r_18, trip_k0_t1.sl.r_19, trip_k0_t1.sl.r_20, trip_k0_t1.sl.r_21,
    trip_k0_t1.sl.r_22, trip_k0_t1.sl.r_23, trip_k0_t1.sl.r_24, trip_k0_t1.sl.r_25, trip_k0_t1.sl.r_26,
    trip_k0_t1.sl.r_27, trip_k0_t1.sl.r_28, trip_k0_t1.sl.r_29, trip_k0_t1.sl.r_30, trip_k0_t1.sl.r_31,
    trip_k0_t1.sl.r_32, trip_k0_t1.sl.r_33, trip_k0_t1.sl.r_34, trip_k0_t1.sl.r_35, trip_k0_t1.sl.r_36,
    trip_k0_t1.sl.r_37, trip_k0_t1.sl.r_38, trip_k0_t1.sl.r_39, trip_k0_t1.sl.r_40, trip_k0_t1.sl.r_41,
    trip_k0_t1.sl.r_42, trip_k0_t1.sl.r_43, trip_k0_t1.sl.r_44, trip_k0_t1.sl.r_45, trip_k0_t1.sl.r_46,
    trip_k0_t1.sl.r_47, trip_k0_t1.sl.r_48, trip_k0_t1.sl.r_49, trip_k0_t1.sl.r_50, trip_k0_t1.sl.r_51,
    trip_k0_t1.sl.r_52, trip_k0_t1.sl.r_53, trip_k0_t1.sl.r_54, trip_k0_t1.sl.r_55, trip_k0_t1.sl.r_56,
    trip_k0_t1.sl.r_57, trip_k0_t1.sl.r_58, trip_k0_t1.sl.r_59, trip_k0_t1.sl.r_60, trip_k0_t1.sl.r_61,
    trip_k0_t1.sl.r_62, trip_k0_t1.sl.r_63, trip_k0_t1.sl.r_64, trip_k0_t1.sl.r_65, trip_k0_t1.sl.r_66,
    trip_k0_t1.sl.r_67, trip_k0_t1.sl.r_68, trip_k0_t1.sl.r_69, trip_k0_t1.sl.r_70, trip_k0_t1.sl.r_71,
    trip_k0_t1.sl.r_72, trip_k0_t1.sl.r_73, trip_k0_t1.sl.r_74, trip_k0_t1.sl.r_75, trip_k0_t1.sl.r_76,
    trip_k0_t1.sl.r_77, trip_k0_t1.sl.r_78, trip_k0_t1.sl.r_79, trip_k0_t1.sl.r_80, trip_k0_t1.sl.r_81,
    trip_k0_t1.sl.r_82, trip_k0_t1.sl.r_83, trip_k0_t1.sl.r_84, trip_k0_t1.sl.r_85,
    k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167,
    k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212,
    k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230,
    k0_pay231, k0_pay232, k0_pay233, k0_pay234, k0_pay235, k0_pay236,
    View.readCov_cons_toLoadRect, View.readCov_skip, readAt_hit, readAt_skip, shapeCast_shapeCast, hs, hm, ha,
    read_k1 x1 k _ _ arg4 harg4, read_k2 x1 k _ _ arg4 harg4,
    read_q x0 arg3 harg3 _ _ 0 0 rfl, read_q x0 arg3 harg3 _ _ 0 1 rfl, read_q x0 arg3 harg3 _ _ 1 0 rfl,
    read_q x0 arg3 harg3 _ _ 1 1 rfl, fold_S x0 x1, fold_P x0 x1, fold_M x0 x1, fold_V1 x2 k _ _ arg5 harg5, fold_V2 x2 k _ _ arg5 harg5, fold_Acc x0 x1 x2,
    fold_Acc' x0 x1 x2, Nat.reduceMod, Nat.reduceDiv,
    Nat.add_zero, Nat.add_assoc, Nat.reduceAdd, BitVec.reduceToNat] at hL
  simp only [Prod.mk.injEq] at hL
  obtain ⟨rfl, -, rfl, -, rfl⟩ := hL
  constructor
  · intro i inb
    have hi : i < 4 := by have := inb 0; simp at this; omega
    interval_cases i <;> rw [show inb = (by decide) from rfl] <;>
      simp (disch := decide) only [readAt_hit, readAt_skip, Nat.reduceMod, Nat.reduceDiv]
  · intro i inb
    have hi : i < 4 := by have := inb 0; simp at this; omega
    interval_cases i <;> rw [show inb = (by decide) from rfl] <;>
      simp (disch := decide) only [readAt_hit, readAt_skip, Nat.reduceMod, Nat.reduceDiv]
  · intro i inb
    have hi : i < 4 := by have := inb 0; simp at this; omega
    interval_cases i <;> rw [show inb = (by decide) from rfl] <;>
      simp (disch := decide) only [readAt_hit, readAt_skip, Nat.reduceMod, Nat.reduceDiv]

end Cert.Attn
-- ==== Proof.Body.lean ====
/-
  What the kernel's body leaves in the output's buffer: the two halves of a block of outputs, each the values' sums over the
  weights' sum, for the two heads of the pair.
-/
module

public import proofs.«01_k».proof.Proof.Run
public import proofs.«01_k».proof.Proof.Trip

@[expose] public section

set_option maxRecDepth 16384

noncomputable section

namespace Cert.Attn

open Cert.KernelIdeal Cert.KernelIdeal.Gen Idealize.ShloMosaic Idealize.ShloMosaic.TcCoe Idealize.SL.Sem

variable {F : FTy → Type} [FloatOps F]
variable (x0 : Vec F S256x512 .bf16) (x1 : Vec F S1x4352x256 .bf16) (x2 : Vec F S1x17x128x256 .bf16)

/-- Half `q` of a block of outputs. -/
def outHalf (q : ℕ) : FVec F S256x128 .bf16 :=
  k0_pay2 (shapeCast S1x80x256 (vAcc x0 x1 x2 0 q (16 + 1)) shapeCasts_S80x256_S1x80x256)
    (shapeCast S1x80x256 (vAcc x0 x1 x2 1 q (16 + 1)) shapeCasts_S80x256_S1x80x256)

section Loop

variable (𝒱 : Variants) (c : Dev nD) (bd : Option 𝒱.V) (i : grid0.Coords)
  (arg3 : Memref sig .tc .vmem S256x512 .bf16) (harg3 : arg3.IsWhole)
  (arg4 : Memref sig .tc .vmem S1x4352x256 .bf16) (harg4 : arg4.IsWhole)
  (arg5 : Memref sig .tc .vmem S1x17x128x256 .bf16) (harg5 : arg5.IsWhole)
  (arg6 : Memref sig .tc .vmem S512x128 .bf16) (harg6 : arg6.IsWhole)
  (arg7 : Memref sig .tc .vmem S4x256x256 .f32) (harg7 : arg7.IsWhole)
  (arg8 : Memref sig .tc .vmem S4x256x256 .f32) (harg8 : arg8.IsWhole)
  (arg9 : Memref sig .tc .vmem S4x1x256 .f32) (harg9 : arg9.IsWhole)
  (arg10 : Memref sig .tc .vmem S4x1x256 .f32) (harg10 : arg10.IsWhole)
  (arg11 : Memref sig .tc .vmem S4x80x256 .f32) (harg11 : arg11.IsWhole)
  (v5 v6 v7 v8 : FVec F S1x256 .f32) (v53 : FVec F S256x256 .f32)

/-- Before trip `n` of the loop the scratch holds the sums over the first `8 n` chunks. -/
theorem loop_held (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty)
    (v0 : FVec F S16x256 .bf16) (hv0 : v0 = broadcast S16x256 (Scalar.ofBits .bf16 0x3F80#16))
    (ms : FVec F S1x256 .f32 × FVec F S1x256 .f32 × FVec F S1x256 .f32 × FVec F S1x256 .f32) (hms : ms = vMs x0 x1 0)
    (H : Held x0 x1 x2 arg7 arg9 arg11 f_arg7 f_arg9 f_arg11 0) (n : ℕ) (hn : n ≤ k0_t1_loop.trips) :
    let st := st_k0_t1 (F := F) 𝒱 c bd i arg3 harg3 arg4 harg4 arg5 harg5 arg6 harg6 arg7 harg7 arg8 harg8 arg9 harg9 arg10 harg10 arg11 harg11 v0 v5 v6 v7 v8 v53
        (harg3.unread x0) (harg4.unread x1) (harg5.unread x2) f_arg7 f_arg8 f_arg9 f_arg10 f_arg11 ms n
    st.1 = vMs x0 x1 (8 * n) ∧ Held x0 x1 x2 arg7 arg9 arg11 (arg7.view.writes (Elt F) f_arg7 st.2.1)
      (arg9.view.writes (Elt F) f_arg9 st.2.2.2.1) (arg11.view.writes (Elt F) f_arg11 st.2.2.2.2.2) (8 * n) := by
  subst hv0
  induction n with
  | zero => exact ⟨hms, H⟩
  | succ n ih =>
    have ih := ih (by omega)
    intro st
    have e : st = _ := st_k0_t1.eq_2 (F := F) 𝒱 c bd i arg3 harg3 arg4 harg4 arg5 harg5 arg6 harg6 arg7 harg7 arg8 harg8 arg9 harg9 arg10 harg10 arg11 harg11 (broadcast S16x256 (Scalar.ofBits .bf16 0x3F80#16)) v5 v6 v7 v8 v53
        (harg3.unread x0) (harg4.unread x1) (harg5.unread x2) f_arg7 f_arg8 f_arg9 f_arg10 f_arg11 ms n
    clear_value st
    revert ih e
    generalize st_k0_t1 (F := F) 𝒱 c bd i arg3 harg3 arg4 harg4 arg5 harg5 arg6 harg6 arg7 harg7 arg8 harg8 arg9 harg9 arg10 harg10 arg11 harg11 (broadcast S16x256 (Scalar.ofBits .bf16 0x3F80#16)) v5 v6 v7 v8 v53
        (harg3.unread x0) (harg4.unread x1) (harg5.unread x2) f_arg7 f_arg8 f_arg9 f_arg10 f_arg11 ms n = s
    intro ih e
    obtain ⟨h1, h2⟩ := ih
    have hn' : n < k0_t1_loop.trips := hn
    unfold st_k0_t1Step at e
    rw [dif_pos hn', h1] at e
    have hr := trip_maxima x0 x1 x2 𝒱 c bd i arg3 harg3 arg4 harg4 arg5 harg5 arg6 harg6 arg7 harg7 arg8 harg8 arg9 harg9 arg10 harg10 arg11 harg11 v5 v6 v7 v8 v53 ⟨n, hn'⟩ (arg7.view.writes (Elt F) f_arg7 s.2.1)
      (arg8.view.writes (Elt F) f_arg8 s.2.2.1) (arg9.view.writes (Elt F) f_arg9 s.2.2.2.1)
      (arg10.view.writes (Elt F) f_arg10 s.2.2.2.2.1) (arg11.view.writes (Elt F) f_arg11 s.2.2.2.2.2) h2
    have hl := trip_held x0 x1 x2 𝒱 c bd i arg3 harg3 arg4 harg4 arg5 harg5 arg6 harg6 arg7 harg7 arg8 harg8 arg9 harg9 arg10 harg10 arg11 harg11 v5 v6 v7 v8 v53 ⟨n, hn'⟩ (arg7.view.writes (Elt F) f_arg7 s.2.1)
      (arg8.view.writes (Elt F) f_arg8 s.2.2.1) (arg9.view.writes (Elt F) f_arg9 s.2.2.2.1)
      (arg10.view.writes (Elt F) f_arg10 s.2.2.2.2.1) (arg11.view.writes (Elt F) f_arg11 s.2.2.2.2.2) h2
    rw [hr] at e
    generalize tripL_k0_t1 (F := F) 𝒱 c bd i arg3 harg3 arg4 harg4 arg5 harg5 arg6 harg6 arg7 harg7 arg8 harg8 arg9 harg9 arg10 harg10 arg11 harg11 (broadcast S16x256 (Scalar.ofBits .bf16 0x3F80#16)) v5 v6 v7 v8 v53
      (harg3.unread x0) (harg4.unread x1) (harg5.unread x2) ⟨n, hn'⟩ (vMs x0 x1 (8 * n))
      (arg7.view.writes (Elt F) f_arg7 s.2.1)
      (arg8.view.writes (Elt F) f_arg8 s.2.2.1) (arg9.view.writes (Elt F) f_arg9 s.2.2.2.1)
      (arg10.view.writes (Elt F) f_arg10 s.2.2.2.2.1) (arg11.view.writes (Elt F) f_arg11 s.2.2.2.2.2) = L at e hl
    obtain ⟨L7, L8, L9, L10, L11⟩ := L
    have hl := hl _ _ _ _ _ rfl
    rw [e, View.writes_append, View.writes_append, View.writes_append]
    exact ⟨rfl, hl⟩

end Loop

variable (c : Dev nD) (i : grid0.Coords)
  (arg3 : Memref sig .tc .vmem S256x512 .bf16) (harg3 : arg3.IsWhole)
  (arg4 : Memref sig .tc .vmem S1x4352x256 .bf16) (harg4 : arg4.IsWhole)
  (arg5 : Memref sig .tc .vmem S1x17x128x256 .bf16) (harg5 : arg5.IsWhole)
  (arg6 : Memref sig .tc .vmem S512x128 .bf16) (harg6 : arg6.IsWhole)
  (arg7 : Memref sig .tc .vmem S4x256x256 .f32) (harg7 : arg7.IsWhole)
  (arg8 : Memref sig .tc .vmem S4x256x256 .f32) (harg8 : arg8.IsWhole)
  (arg9 : Memref sig .tc .vmem S4x1x256 .f32) (harg9 : arg9.IsWhole)
  (arg10 : Memref sig .tc .vmem S4x1x256 .f32) (harg10 : arg10.IsWhole)
  (arg11 : Memref sig .tc .vmem S4x80x256 .f32) (harg11 : arg11.IsWhole)

set_option maxHeartbeats 1000000 in
/-- Before the loop the scratch holds the scores of the first chunk, and sums of nothing. -/
theorem held_zero : Held x0 x1 x2 arg7 arg9 arg11
    (arg7.view.writes (Elt F) arg7.view.junk (bodyRun.sl.HS0_4 c arg3 harg3 arg4 harg4 x0 x1))
    (arg9.view.writes (Elt F) arg9.view.junk (bodyRun.sl.HS2_4 c arg3 harg3 arg4 harg4 x0 x1))
    (arg11.view.writes (Elt F) arg11.view.junk bodyRun.sl.HS4_1) 0 := by
  constructor
  · intro i inb
    have hi : i < 4 := by have := inb 0; simp at this; omega
    interval_cases i <;> rw [show inb = (by decide) from rfl] <;> simp (disch := decide) only [
    bodyRun.sl.r, bodyRun.sl.r_1, bodyRun.sl.r_2, bodyRun.sl.HS2_4, bodyRun.sl.HS0_4, bodyRun.sl.cst_22,
    k0_pay216, k0_pay217, k0_pay218, k0_pay219, k0_pay220, k0_pay221, k0_pay222, k0_pay223, k0_pay224,
    k0_pay225, k0_pay226, k0_pay227, k0_pay228, k0_pay229,
      readAt_hit, readAt_skip, read_k x1 arg4 harg4 _ _ 0 0 rfl, read_k x1 arg4 harg4 _ _ 1 0 rfl,
      read_q x0 arg3 harg3 _ _ 0 0 rfl, read_q x0 arg3 harg3 _ _ 0 1 rfl, read_q x0 arg3 harg3 _ _ 1 0 rfl,
      read_q x0 arg3 harg3 _ _ 1 1 rfl, fold_S x0 x1, Nat.reduceMod, Nat.reduceDiv]
  · intro i inb
    have hi : i < 4 := by have := inb 0; simp at this; omega
    interval_cases i <;> rw [show inb = (by decide) from rfl] <;> simp (disch := decide) only [
    bodyRun.sl.r, bodyRun.sl.r_1, bodyRun.sl.r_2, bodyRun.sl.HS2_4, bodyRun.sl.HS0_4, bodyRun.sl.cst_22,
    k0_pay216, k0_pay217, k0_pay218, k0_pay219, k0_pay220, k0_pay221, k0_pay222, k0_pay223, k0_pay224,
    k0_pay225, k0_pay226, k0_pay227, k0_pay228, k0_pay229,
      readAt_hit, readAt_skip, read_k x1 arg4 harg4 _ _ 0 0 rfl, read_k x1 arg4 harg4 _ _ 1 0 rfl,
      read_q x0 arg3 harg3 _ _ 0 0 rfl, read_q x0 arg3 harg3 _ _ 0 1 rfl, read_q x0 arg3 harg3 _ _ 1 0 rfl,
      read_q x0 arg3 harg3 _ _ 1 1 rfl, fold_S x0 x1, fold_P x0 x1, Nat.reduceMod, Nat.reduceDiv]
  · intro i inb
    have e := View.readCov_fill (Val := Elt F) arg11.view inb_S4x80x256_S4x80x256_0_0_0 (k0_pay211 (F := F)) []
      (Rect.unit (s := S4x80x256) ![i, 0, 0] S1x80x256.size inb) (by decide)
    unfold View.readCov at e
    unfold bodyRun.sl.HS4_1
    rw [e]
    unfold k0_pay211 vAcc shapeCast broadcast
    rfl

set_option maxHeartbeats 4000000 in
/-- The pieces the body leaves in the output's buffer. -/
theorem bodyRun_pieces (g8 : BufTy.Contents (Elt F) arg8.view.ty) (g10 : BufTy.Contents (Elt F) arg10.view.ty) :
    (bodyRun c i arg3 harg3 arg4 harg4 arg5 harg5 arg6 harg6 arg7 harg7 arg8 harg8 arg9 harg9 arg10 harg10 arg11 harg11 x0 x1 x2).1 g8 g10
      = [⟨Rect.unit (s := S512x128) ![256, 0] S256x128.size inb_S512x128_S256x128_256_0, outHalf x0 x1 x2 1⟩,
        ⟨Rect.unit (s := S512x128) ![0, 0] S256x128.size inb_S512x128_S256x128_0_0, outHalf x0 x1 x2 0⟩] := by
  have H := loop_held x0 x1 x2 Variants.none c none i arg3 harg3 arg4 harg4 arg5 harg5 arg6 harg6 arg7 harg7 arg8 harg8 arg9 harg9 arg10 harg10 arg11 harg11
    k0_pay212 k0_pay213 k0_pay214 k0_pay215 (bodyRun.sl.r_2 c arg3 harg3 arg4 harg4 x0 x1) _ g8 _ g10 _
    k0_pay210 rfl (k0_pay212, k0_pay213, k0_pay214, k0_pay215) rfl
    (held_zero x0 x1 x2 c arg3 harg3 arg4 harg4 arg7 arg9 arg11) k0_t1_loop.trips le_rfl
  have hT : 8 * k0_t1_loop.trips = 16 := by decide
  simp only [hT] at H
  unfold vMs at H
  obtain ⟨hM, H⟩ := H
  have hs := H.scores
  have hm := H.maxima
  have ha := H.sums
  simp only [← View.writes_append] at hs hm ha
  change ∀ i inb, arg7.view.readCov _ _ = _ at hs
  change ∀ i inb, arg9.view.readCov _ _ = _ at hm
  change ∀ i inb, arg11.view.readCov _ _ = _ at ha
  have hv0 : concatenate S80x256 0 [⟨S64x256, shapeCast S64x256 (View.readAt (Elt F) arg5.view
        (Rect.unit (s := S1x17x128x256) ![0, 16, 0, 0] S1x1x64x256.size inb_S1x17x128x256_S1x1x64x256_0_16_0_0).toLoadRect
        (harg5.unread x2)) shapeCasts_S1x1x64x256_S64x256⟩, ⟨S16x256, k0_pay210⟩] concatenates_S64x256_S16x256_S80x256_d0
      = vV x2 0 16 := fold_V x2 0 16 _ (read_v x2 arg5 harg5 ![0, 16, 0, 0] _ 0 16 rfl)
  have hv1 : concatenate S80x256 0 [⟨S64x256, shapeCast S64x256 (View.readAt (Elt F) arg5.view
        (Rect.unit (s := S1x17x128x256) ![0, 16, 64, 0] S1x1x64x256.size inb_S1x17x128x256_S1x1x64x256_0_16_64_0).toLoadRect
        (harg5.unread x2)) shapeCasts_S1x1x64x256_S64x256⟩, ⟨S16x256, k0_pay210⟩] concatenates_S64x256_S16x256_S80x256_d0
      = vV x2 1 16 := fold_V x2 1 16 _ (read_v x2 arg5 harg5 ![0, 16, 64, 0] _ 1 16 rfl)
  unfold bodyRun
  simp (disch := decide) only [
    bodyRun.sl.v101, bodyRun.sl.v178, bodyRun.sl.v147, bodyRun.sl.r_5, bodyRun.sl.v138, bodyRun.sl.HS4_1_1,
    bodyRun.sl.v69, bodyRun.sl.v156, bodyRun.sl.v162, bodyRun.sl.v133, bodyRun.sl.HS4_2, bodyRun.sl.v124,
    bodyRun.sl.HS4_3, bodyRun.sl.r_8, bodyRun.sl.r_4, bodyRun.sl.v64, bodyRun.sl.v115, bodyRun.sl.r_7,
    bodyRun.sl.v172, bodyRun.sl.v78, bodyRun.sl.v87, bodyRun.sl.v92, bodyRun.sl.HS4_4, bodyRun.sl.v110,
    bodyRun.sl.r_3, bodyRun.sl.r_6,
    k0_pay1,
    k0_pay230, k0_pay231, k0_pay232, k0_pay233, k0_pay234, k0_pay235, k0_pay236,
    View.readCov_cons_toLoadRect, View.readCov_skip, hM, hs, hm, ha, shapeCast_shapeCast, Nat.reduceMod, Nat.reduceDiv,
    hv0, hv1, fold_M x0 x1, fold_Acc x0 x1 x2]
  rfl

end Cert.Attn
-- ==== Proof.Frame.lean ====
/-
  The launch: what a grid point leaves in its block of the output, the pipeline's proof data over that, the run, and the
  frame.  The set-up from the proof data on is the generated one, over this certificate's own run of the body.
-/
module

public import proofs.«01_k».proof.Proof.Body
public import Idealize.ShloMosaic.Lib.Claim
public import Idealize.ShloMosaic.Lib.Pipeline.Value

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Block

variable (x0 : Vec F S256x512 .bf16) (x1 : Vec F S1x4352x256 .bf16) (x2 : Vec F S1x17x128x256 .bf16)

/-- A block of outputs: its two halves, one above the other. -/
def outBlock : Vec F S512x128 .bf16 := fun j =>
  outHalf x0 x1 x2 ((j 0).val / 256) (ix2 ⟨(j 0).val % 256, Nat.mod_lt _ (by decide)⟩ (j 1))

/-- The pieces the body leaves read back as the block of outputs, whatever was there before. -/
theorem read_pieces (v : View sig .tc .vmem S512x128 .bf16) (f : v.ty.Contents (Elt F)) :
    v.read (Elt F) (v.writes (Elt F) f
      [⟨Rect.unit (s := S512x128) ![256, 0] S256x128.size inb_S512x128_S256x128_256_0, outHalf x0 x1 x2 1⟩,
        ⟨Rect.unit (s := S512x128) ![0, 0] S256x128.size inb_S512x128_S256x128_0_0, outHalf x0 x1 x2 0⟩])
      = outBlock x0 x1 x2 := by
  funext j
  have h0 : (j 0).val < 512 := (j 0).isLt
  have h1 : (j 1).val < 128 := (j 1).isLt
  let y : S256x128.Idx := ix2 ⟨(j 0).val % 256, Nat.mod_lt _ (by decide)⟩ (j 1)
  by_cases h : 256 ≤ (j 0).val
  · have e : (Rect.unit (s := S512x128) ![256, 0] S256x128.size inb_S512x128_S256x128_256_0).emb y = j := by
      funext a
      apply Fin.ext
      fin_cases a
      · change 256 + 1 * ((j 0).val % 256) = (j 0).val; omega
      · change 0 + 1 * (j 1).val = (j 1).val; omega
    have hq : (j 0).val / 256 = 1 := by omega
    have ho : outBlock x0 x1 x2 j = outHalf x0 x1 x2 1 y := by unfold outBlock; rw [hq]
    have key := View.read_writes_cons_emb v f (Rect.unit (s := S512x128) ![256, 0] S256x128.size inb_S512x128_S256x128_256_0)
      (outHalf x0 x1 x2 1)
      [⟨Rect.unit (s := S512x128) ![0, 0] S256x128.size inb_S512x128_S256x128_0_0, outHalf x0 x1 x2 0⟩] y
    rw [e] at key
    rw [ho]
    exact key
  · have e : (Rect.unit (s := S512x128) ![0, 0] S256x128.size inb_S512x128_S256x128_0_0).emb y = j := by
      funext a
      apply Fin.ext
      fin_cases a
      · change 0 + 1 * ((j 0).val % 256) = (j 0).val; omega
      · change 0 + 1 * (j 1).val = (j 1).val; omega
    have hq : (j 0).val / 256 = 0 := by omega
    have ho : outBlock x0 x1 x2 j = outHalf x0 x1 x2 0 y := by unfold outBlock; rw [hq]
    have key := View.read_writes_cons_emb v f (Rect.unit (s := S512x128) ![0, 0] S256x128.size inb_S512x128_S256x128_0_0)
      (outHalf x0 x1 x2 0) [] y
    rw [e] at key
    have hm : j ∉ (Rect.unit (s := S512x128) ![256, 0] S256x128.size inb_S512x128_S256x128_256_0).set := by
      rw [Rect.mem_set_unit]
      intro hm
      exact h (hm 0).1
    rw [← Rect.map_emb_univ] at hm
    rw [ho, View.writes_cons, View.read_slice_write_of_not_mem _ _ _ _ hm]
    exact key

end Block

variable (m : (ℓ : Loc nD τ sig) → Buf (Elt F) ℓ) (ρ : Dev nD → PrngReg)

/-- What the output's staging buffer holds after the body at point `t`. -/
def outsAt0 (c : Dev nD) (t : Fin cfg0.N) : Vec F S512x128 .bf16 := outBlock (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨⟨HS0, HS1, HS2, HS3, HS4⟩, Hg⟩, Ho, ⟨%d0, H0⟩, ⟨%d1, H1⟩, ⟨%d2, H2⟩, ⟨%d3, H3⟩⟩
  iapply ((bodyRun c (grid0.coords t) _ _ _ _ _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, ⟨%g8, %g10, %e3, H3⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  unfold owns; iexists _; isplitr
  swap; · iexact H3
  ipureintro; rw [bodyRun_pieces]; exact read_pieces _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## What the run leaves in the output array -/

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.Attn
-- ==== Proof.Softmax.lean ====
/-
  The mathematics of the attention call, with no machine in it: the running softmax of the kernel — a maximum and an
  accumulator rescaled chunk by chunk, base two — against the softmax taken in one piece, base e. Scores are real
  numbers; the values they weigh are any extended reals.
-/
module

public import Idealize.ShloMosaic.PureOps.Ideal
public import Idealize.ShloMosaic.PureOps.Ideal.Laws

@[expose] public section

noncomputable section

namespace Cert.Attn

open Idealize.ShloMosaic

variable {ι : Type} [Fintype ι]

/-- The maximum of one chunk's scores, taken from minus infinity. -/
def chunkMax (s : ι → EReal) : EReal := (Finset.univ : Finset ι).fold max ⊥ s

/-- The accumulator after one more chunk: rescaled to the new maximum, then the chunk's weighted values added. -/
def accStep (m m' a : EReal) (s V : ι → EReal) : EReal :=
  Ideal.exp2 (m - m') * a + ∑ j, V j * Ideal.exp2 (s j - m')

/-- The running maximum before chunk `n`. -/
def runM (s : ℕ → ι → EReal) : ℕ → EReal
  | 0 => ⊥
  | n + 1 => max (runM s n) (chunkMax (s n))

/-- The running accumulator before chunk `n`. -/
def runA (s V : ℕ → ι → EReal) : ℕ → EReal
  | 0 => 0
  | n + 1 => accStep (runM s n) (runM s (n + 1)) (runA s V n) (s n) (V n)

/-- The maximum of a chunk of real scores is a real. -/
theorem chunkMax_real [Nonempty ι] (S : ι → ℝ) : ∃ M : ℝ, chunkMax (fun j => (S j : EReal)) = M := by
  have hlt : chunkMax (fun j => (S j : EReal)) < ⊤ :=
    (Finset.fold_max_lt _).2 ⟨bot_lt_top, fun j _ => EReal.coe_lt_top _⟩
  have hle : ((S (Classical.arbitrary ι) : ℝ) : EReal) ≤ chunkMax (fun j => (S j : EReal)) :=
    (Finset.le_fold_max _).2 (Or.inr ⟨_, Finset.mem_univ _, le_rfl⟩)
  have hbot : chunkMax (fun j => (S j : EReal)) ≠ ⊥ := fun h => by
    rw [h] at hle; exact absurd hle (not_le.2 (EReal.bot_lt_coe _))
  exact ⟨_, (EReal.coe_toReal hlt.ne hbot).symm⟩

/-- The running maximum after at least one chunk of real scores is a real. -/
theorem runM_real [Nonempty ι] (S : ℕ → ι → ℝ) (n : ℕ) :
    ∃ M : ℝ, runM (fun k j => (S k j : EReal)) (n + 1) = M := by
  induction n with
  | zero =>
    obtain ⟨M, hM⟩ := chunkMax_real (S 0)
    exact ⟨M, by simp only [runM]; rw [hM]; exact max_eq_right bot_le⟩
  | succ n ih =>
    obtain ⟨M, hM⟩ := ih
    obtain ⟨M', hM'⟩ := chunkMax_real (S (n + 1))
    refine ⟨max M M', ?_⟩
    rw [show runM (fun k j => (S k j : EReal)) (n + 1 + 1)
      = max (runM (fun k j => (S k j : EReal)) (n + 1)) (chunkMax (fun j => (S (n + 1) j : EReal))) from rfl, hM, hM']
    exact (Monotone.map_max (f := Real.toEReal) fun _ _ h => EReal.coe_le_coe_iff.2 h).symm

/-- A nonnegative real factor goes into a finite sum of extended reals. -/
theorem mul_sum_nonneg {κ : Type} (t : Finset κ) (f : κ → EReal) {c : ℝ} (hc : 0 ≤ c) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- A finite sum of reals, read in the extended reals. -/
theorem coe_sum' {κ : Type} (t : Finset κ) (f : κ → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The accumulator after at least one chunk, in closed form over the running maximum. -/
theorem runA_closed [Nonempty ι] (S : ℕ → ι → ℝ) (V : ℕ → ι → EReal) (n : ℕ) (M : ℝ)
    (hM : runM (fun k j => (S k j : EReal)) (n + 1) = M) :
    runA (fun k j => (S k j : EReal)) V (n + 1)
      = ∑ k ∈ Finset.range (n + 1), ∑ j, V k j * ((Real.rpow 2 (S k j - M) : ℝ) : EReal) := by
  induction n generalizing M with
  | zero =>
    rw [show runA (fun k j => (S k j : EReal)) V (0 + 1)
      = accStep ⊥ (runM (fun k j => (S k j : EReal)) (0 + 1)) 0 (fun j => (S 0 j : EReal)) (V 0) from rfl, hM, accStep,
      mul_zero, zero_add, Finset.sum_range_one]
    exact Finset.sum_congr rfl fun j _ => by rw [← EReal.coe_sub, Ideal.exp2_coe]
  | succ n ih =>
    obtain ⟨N, hN⟩ := runM_real S n
    have hp : ∀ x : ℝ, 0 ≤ Real.rpow 2 x := fun x => Real.rpow_nonneg (by norm_num) x
    rw [show runA (fun k j => (S k j : EReal)) V (n + 1 + 1)
      = accStep (runM (fun k j => (S k j : EReal)) (n + 1)) (runM (fun k j => (S k j : EReal)) (n + 1 + 1))
          (runA (fun k j => (S k j : EReal)) V (n + 1)) (fun j => (S (n + 1) j : EReal)) (V (n + 1)) from rfl,
      hM, hN, ih N hN, accStep, Finset.sum_range_succ _ (n + 1), ← EReal.coe_sub, Ideal.exp2_coe,
      mul_sum_nonneg _ _ (hp (N - M))]
    congr 1
    refine Finset.sum_congr rfl fun k _ => ?_
    rw [mul_sum_nonneg _ _ (hp (N - M))]
    refine Finset.sum_congr rfl fun j _ => ?_
    rw [mul_left_comm, ← EReal.coe_mul]
    congr 2
    exact (Real.rpow_add (by norm_num) _ _).symm.trans (by congr 1; ring)

/-- A power of two is the exponential of the exponent times `log 2`. -/
theorem rpow_two (x : ℝ) : Real.rpow 2 x = Real.exp (x * Real.log 2) := by
  rw [show Real.rpow 2 x = (2 : ℝ) ^ x from rfl, Real.rpow_def_of_pos (by norm_num), mul_comm]

/-- THE EQUATION: the running softmax's weighted values over its denominator (the same accumulator over values `1`)
    are the values weighed by the softmax of the scores times `log 2`, whatever real `C` the latter subtracts. -/
theorem running_eq [Nonempty ι] (S : ℕ → ι → ℝ) (V : ℕ → ι → EReal) (n : ℕ) (C : ℝ) :
    Ideal.div (runA (fun k j => (S k j : EReal)) V (n + 1)) (runA (fun k j => (S k j : EReal)) (fun _ _ => 1) (n + 1))
      = ∑ k ∈ Finset.range (n + 1), ∑ j, V k j * Ideal.div (Ideal.exp ((S k j : EReal) * (Real.log 2 : ℝ) - (C : EReal)))
          (∑ k ∈ Finset.range (n + 1), ∑ j, Ideal.exp ((S k j : EReal) * (Real.log 2 : ℝ) - (C : EReal))) := by
  obtain ⟨M, hM⟩ := runM_real S n
  have hexp : ∀ k j, Ideal.exp ((S k j : EReal) * (Real.log 2 : ℝ) - (C : EReal))
      = ((Real.exp (S k j * Real.log 2 - C) : ℝ) : EReal) := fun k j => by
    rw [← EReal.coe_mul, ← EReal.coe_sub, Ideal.exp_coe]
  simp only [hexp, runA_closed S _ n M hM, one_mul, ← coe_sum']
  have hpos : ∀ f : ℕ → ι → ℝ, (∀ k j, 0 < f k j) → 0 < ∑ k ∈ Finset.range (n + 1), ∑ j, f k j := fun f hf =>
    Finset.sum_pos (fun k _ => Finset.sum_pos (fun j _ => hf k j) Finset.univ_nonempty) ⟨0, by simp⟩
  have hL := hpos (fun k j => Real.rpow 2 (S k j - M)) fun k j => Real.rpow_pos_of_pos (by norm_num) _
  have hE := hpos (fun k j => Real.exp (S k j * Real.log 2 - C)) fun k j => Real.exp_pos _
  have hscale : ∀ k j, Real.rpow 2 (S k j - M)
      = Real.exp (C - M * Real.log 2) * Real.exp (S k j * Real.log 2 - C) := fun k j => by
    rw [rpow_two, ← Real.exp_add]; congr 1; ring
  rw [Ideal.div_coe hL.ne', mul_comm, mul_sum_nonneg _ _ (by positivity)]
  refine Finset.sum_congr rfl fun k _ => ?_
  rw [mul_sum_nonneg _ _ (by positivity)]
  refine Finset.sum_congr rfl fun j _ => ?_
  rw [Ideal.div_coe hE.ne', mul_left_comm, ← EReal.coe_mul, ← EReal.coe_mul]
  congr 2
  simp only [hscale, ← Finset.mul_sum]
  have h1 := Real.exp_pos (C - M * Real.log 2)
  field_simp

end Cert.Attn

end
-- ==== Proof.Ref.lean ====
/-
  What the reference computes, read at one element of its result: the values of one head weighed by the softmax of one
  query's scores times `log 2`.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Attn.Ref

open Cert.ReferenceIdeal Cert.ReferenceIdeal.Gen Idealize.ShloMosaic Idealize.ShloMosaic.StableHlo

variable (A0 : FVec Ideal S1024x36864 .bf16) (A1 : FVec Ideal S8x4352x1024 .bf16) (A2 : FVec Ideal S8x17x512x256 .bf16)

/-- The queries by batch, token, head and feature. -/
def q : FVec Ideal S8x4096x8x128 .f32 :=
  shapeCast _ (extractStridedSlice S32768x1024 ![0, 0] (transpose S36864x1024 [1, 0] (extf .f32 A0 bitsLt_bf16_f32)
    transposes_S1024x36864_S36864x1024_1_0) slices_S36864x1024_S32768x1024_0_0) shapeCasts_S32768x1024_S8x4096x8x128

/-- The keys by batch, token, head and feature. -/
def k : FVec Ideal S8x4352x8x128 .f32 :=
  shapeCast _ (extf .f32 A1 bitsLt_bf16_f32) shapeCasts_S8x4352x1024_S8x4352x8x128

/-- The values by batch, token, head and feature. -/
def v : FVec Ideal S8x4352x8x64 .f32 :=
  shapeCast _ (transpose S8x17x256x512 [0, 1, 3, 2] (extf .f32 A2 bitsLt_bf16_f32)
    transposes_S8x17x512x256_S8x17x256x512_0_1_3_2) shapeCasts_S8x17x256x512_S8x4352x8x64

/-- The scores times `log 2`. -/
def x : FVec Ideal S8x8x4096x4352 .f32 :=
  mulf (Host.dotGeneral dot_S8x4096x8x128_S8x4352x8x128_S8x8x4096x4352_3_3_1_1_02_02 none (q A0) (k A1))
    (broadcastInDim S8x8x4096x4352 ![] bcast_S_S8x8x4096x4352 (Host.log (constant S_ .f32 0x40000000#32)))

/-- Each query's maximum. -/
def mx : FVec Ideal S8x8x4096 .f32 :=
  maximumf (broadcastInDim S8x8x4096 ![] bcast_S_S8x8x4096 (constant S_ .f32 0xFF800000#32))
    (Host.reduce FloatOps.maximumf (x A0 A1) (constant S_ .f32 0xFF800000#32) reducesTo_S8x8x4096x4352_S8x8x4096_d3 h_S_)

/-- The exponentials. -/
def e : FVec Ideal S8x8x4096x4352 .f32 :=
  Host.exp (subf (x A0 A1) (broadcastInDim S8x8x4096x4352 ![0, 1, 2, 3] bcast_S8x8x4096x1_S8x8x4096x4352_0_1_2_3
    (broadcastInDim S8x8x4096x1 ![0, 1, 2] bcast_S8x8x4096_S8x8x4096x1_0_1_2 (mx A0 A1))))

/-- The softmax. -/
def w : FVec Ideal S8x8x4096x4352 .f32 :=
  Host.divf (e A0 A1) (broadcastInDim S8x8x4096x4352 ![0, 1, 2, 3] bcast_S8x8x4096x1_S8x8x4096x4352_0_1_2_3
    (broadcastInDim S8x8x4096x1 ![0, 1, 2] bcast_S8x8x4096_S8x8x4096x1_0_1_2
      (Host.reduceAdd (e A0 A1) (constant S_ .f32 0x00000000#32) reducesTo_S8x8x4096x4352_S8x8x4096_d3 h_S_)))

/-- The result. -/
def out : FVec Ideal S32768x512 .bf16 :=
  truncf .bf16 (shapeCast _ (transpose S8x4096x8x64 [0, 3, 1, 2]
    (Host.dotGeneral dot_S8x4352x8x64_S8x8x4096x4352_S8x8x64x4096_1_3_3_2_02_01 none (v A2) (w A0 A1))
    transposes_S8x8x64x4096_S8x4096x8x64_0_3_1_2) shapeCasts_S8x4096x8x64_S32768x512) bitsLt_bf16_f32

/-- The word of `2.0`, through the logarithm. -/
theorem log_two : Ideal.log (Ideal.ofBits FTy.f32 0x40000000#32) = ((Real.log 2 : ℝ) : EReal) := by
  rw [show Ideal.ofBits FTy.f32 0x40000000#32 = ((2 : ℝ) : EReal) by
    simp [Ideal.ofBits, Ideal.ieee]
    rw [← EReal.coe_mul]
    norm_num]
  rw [Ideal.log_coe, if_neg (by norm_num)]

/-- The word of minus infinity. -/
theorem bot_word : Ideal.ofBits FTy.f32 0xFF800000#32 = ⊥ := by simp [Ideal.ofBits, Ideal.ieee]

/-- A maximum over the last axis, from minus infinity. -/
theorem max_last (X : FVec Ideal S8x8x4096x4352 .f32) (b h : Fin 8) (t : Fin 4096) :
    Host.reduce FloatOps.maximumf X (constant S_ .f32 0xFF800000#32) reducesTo_S8x8x4096x4352_S8x8x4096_d3 h_S_ (ix3 b h t)
      = chunkMax fun c : Fin 4352 => X (ix4 b h t c) := by
  have hr : S8x8x4096x4352.Reduces [3] S8x8x4096 := by decide
  rw [Host.reduce_eq_fold_single _ _ _ _ hr, chunkMax, constant]
  refine congrArg₂ (fun (i : EReal) (f : Fin 4352 → EReal) => (Finset.univ : Finset (Fin 4352)).fold max i f) bot_word
    (funext fun c => congrArg X (funext fun a => Fin.ext ?_))
  match a with
  | ⟨0, _⟩ => rfl
  | ⟨1, _⟩ => rfl
  | ⟨2, _⟩ => rfl
  | ⟨3, _⟩ => rfl

theorem q_apply (b : Fin 8) (t : Fin 4096) (h : Fin 8) (d : Fin 128) :
    q A0 (ix4 b t h d) = A0 (ix2 ⟨h.val * 128 + d.val, by omega⟩ ⟨b.val * 4096 + t.val, by omega⟩) := by
  pointwise [q]

theorem k_apply (b : Fin 8) (t : Fin 4352) (h : Fin 8) (d : Fin 128) :
    k A1 (ix4 b t h d) = A1 (ix3 b t ⟨h.val * 128 + d.val, by omega⟩) := by
  pointwise [k]

theorem v_apply (b : Fin 8) (t : Fin 4352) (h : Fin 8) (d : Fin 64) :
    v A2 (ix4 b t h d) = A2 (ix4 b ⟨t.val / 256, by omega⟩ ⟨h.val * 64 + d.val, by omega⟩ ⟨t.val % 256, by omega⟩) := by
  pointwise [v]

theorem x_apply (b h : Fin 8) (t : Fin 4096) (c : Fin 4352) :
    x A0 A1 (ix4 b h t c) = (∑ d : Fin 128, q A0 (ix4 b t h d) * k A1 (ix4 b c h d)) * ((Real.log 2 : ℝ) : EReal) := by
  pointwise [x]
  rw [log_two]

theorem mx_apply (b h : Fin 8) (t : Fin 4096) :
    mx A0 A1 (ix3 b h t) = chunkMax fun c : Fin 4352 => x A0 A1 (ix4 b h t c) := by
  have h1 : ∀ (P Q : FVec Ideal S8x8x4096 .f32) (j : S8x8x4096.Idx), maximumf P Q j = max (P j) (Q j) := fun _ _ _ => rfl
  have h2 : ∀ j, broadcastInDim S8x8x4096 ![] bcast_S_S8x8x4096 (constant (F := Ideal) S_ .f32 0xFF800000#32) j
      = Ideal.ofBits FTy.f32 0xFF800000#32 := fun _ => rfl
  rw [mx, h1, h2, max_last, bot_word]
  exact max_eq_right bot_le

theorem e_apply (b h : Fin 8) (t : Fin 4096) (c : Fin 4352) :
    e A0 A1 (ix4 b h t c) = Ideal.exp (x A0 A1 (ix4 b h t c) - mx A0 A1 (ix3 b h t)) := by
  pointwise [e]

theorem w_apply (b h : Fin 8) (t : Fin 4096) (c : Fin 4352) :
    w A0 A1 (ix4 b h t c) = Ideal.div (e A0 A1 (ix4 b h t c)) (∑ c' : Fin 4352, e A0 A1 (ix4 b h t c')) := by
  pointwise [w]

theorem out_apply (r : Fin 32768) (l : Fin 512) :
    out A0 A1 A2 (ix2 r l) = ∑ c : Fin 4352,
      v A2 (ix4 ⟨r.val / 4096, by omega⟩ c ⟨l.val / 64, by omega⟩ ⟨l.val % 64, by omega⟩)
        * w A0 A1 (ix4 ⟨r.val / 4096, by omega⟩ ⟨l.val / 64, by omega⟩ ⟨r.val % 4096, by omega⟩ c) := by
  pointwise [out]

end Cert.Attn.Ref

end
-- ==== Proof.Values.lean ====
/-
  The blocks a grid point computes, read at one element at the extended reals: the scores are sums of products, their
  greatest is a running maximum, the sums are the running sums of the softmax, and a block of outputs is their quotients.
-/
module

public import proofs.«01_k».proof.Proof.Frame
public import proofs.«01_k».proof.Proof.Ref
public import Idealize.ShloMosaic.Lib.Pointwise

@[expose] public section

set_option maxRecDepth 16384

noncomputable section

namespace Cert.Attn

open Cert.KernelIdeal Cert.KernelIdeal.Gen Idealize.ShloMosaic Idealize.ShloMosaic.TcCoe

variable (x0 : Vec Ideal S256x512 .bf16) (x1 : Vec Ideal S1x4352x256 .bf16) (x2 : Vec Ideal S1x17x128x256 .bf16)

/-- The score of key `j` of chunk `n` with query `c` of stream `(h, q)`. -/
def score (h q : ℕ) (c : Fin 256) (n : ℕ) (j : Fin 256) : EReal :=
  ∑ d : Fin 128, kBlk x1 h n (ix3 0 j d) * qBlk x0 h q (ix2 d c)

theorem vS_apply (h q n : ℕ) (j c : Fin 256) : vS x0 x1 h q n (ix2 j c) = score x0 x1 h q c n j := by
  pointwise [vS, score]

theorem vP_apply (h q n : ℕ) (c : Fin 256) : vP x0 x1 h q n (ix2 0 c) = chunkMax (score x0 x1 h q c n) := by
  have e : score x0 x1 h q c n = fun j => vS x0 x1 h q n (ix2 j c) := funext fun j => (vS_apply x0 x1 h q n j c).symm
  rw [e]
  pointwise [vP, chunkMax]
  rw [Ref.bot_word]

theorem vM_apply (h q n : ℕ) (c : Fin 256) : vM x0 x1 h q n (ix2 0 c) = runM (score x0 x1 h q c) n := by
  induction n with
  | zero =>
    pointwise [vM, runM]
    exact Ref.bot_word
  | succ n ih =>
    rw [runM, ← ih, ← vP_apply]
    pointwise [vM]

/-- The values by chunk, with ones below the 64 rows of the head. -/
theorem vV_apply (h n : ℕ) (r : Fin 80) (j : Fin 256) :
    vV x2 h n (ix2 r j) = if hr : r.val < 64 then vBlk x2 h n (ix4 0 0 ⟨r.val, hr⟩ j) else 1 := by
  pointwise [vV]

theorem vAcc_apply (h q n : ℕ) (r : Fin 80) (c : Fin 256) :
    vAcc x0 x1 x2 h q n (ix2 r c) = runA (score x0 x1 h q c) (fun n j => vV x2 h n (ix2 r j)) n := by
  induction n with
  | zero => pointwise [vAcc, runA]
  | succ n ih =>
    rw [runA, accStep, ← ih, ← vM_apply, ← vM_apply]
    simp only [← vS_apply]
    pointwise [vAcc]
    rfl

theorem outHalf_apply (q : ℕ) (c : Fin 256) (l : Fin 128) :
    outHalf x0 x1 x2 q (ix2 c l)
      = Ideal.div (vAcc x0 x1 x2 (l.val / 64) q 17 (ix2 ⟨l.val % 64, by omega⟩ c)) (vAcc x0 x1 x2 (l.val / 64) q 17 (ix2 64 c)) := by
  pointwise [outHalf, k0_pay2]
  by_cases hl : l.val < 64
  · have e0 : l.val / 64 = 0 := by omega
    have e1 : l.val % 64 = l.val := by omega
    simp only [dif_pos hl, e0, e1]
  · have e0 : l.val / 64 = 1 := by omega
    have e1 : l.val % 64 = l.val - 64 := by omega
    simp only [dif_neg hl, e0, e1]

end Cert.Attn

end
-- ==== Proof.Equation.lean ====
/-
  One block of outputs: over real scores, what a grid point computes is the softmax of the scores times `log 2`, weighing
  the values.
-/
module

public import proofs.«01_k».proof.Proof.Values

@[expose] public section

set_option maxRecDepth 16384

noncomputable section

namespace Cert.Attn

open Cert.KernelIdeal Cert.KernelIdeal.Gen Idealize.ShloMosaic Idealize.ShloMosaic.TcCoe

/-- A sum over all the keys, chunk by chunk. -/
theorem sum_chunks (f : Fin 4352 → EReal) (g : ℕ → Fin 256 → EReal)
    (h : ∀ (k : ℕ) (hk : k < 17) (j : Fin 256), f ⟨256 * k + j.val, by omega⟩ = g k j) :
    ∑ c, f c = ∑ k ∈ Finset.range 17, ∑ j, g k j := by
  rw [Finset.sum_range, ← Fintype.sum_prod_type' (fun (k : Fin 17) (j : Fin 256) => g k.val j),
    ← Equiv.sum_comp (finProdFinEquiv : Fin 17 × Fin 256 ≃ Fin 4352) f]
  refine Finset.sum_congr rfl fun p _ => ?_
  rw [← h p.1.val p.1.isLt p.2]
  exact congrArg f (Fin.ext (Nat.add_comm _ _))

variable (x0 : Vec Ideal S256x512 .bf16) (x1 : Vec Ideal S1x4352x256 .bf16) (x2 : Vec Ideal S1x17x128x256 .bf16)

/-- Scores of real queries and keys are real. -/
theorem score_real (hx0 : ∀ i, ∃ r : ℝ, x0 i = (r : EReal)) (hx1 : ∀ i, ∃ r : ℝ, x1 i = (r : EReal))
    (h q : ℕ) (c : Fin 256) : ∃ S : ℕ → Fin 256 → ℝ, score x0 x1 h q c = fun n j => (S n j : EReal) := by
  choose r0 h0 using hx0
  choose r1 h1 using hx1
  refine ⟨fun n j => ∑ d : Fin 128,
    r1 (ix3 0 ⟨(256 * n + j.val) % 4352, Nat.mod_lt _ (by decide)⟩ ⟨(128 * h + d.val) % 256, Nat.mod_lt _ (by decide)⟩)
      * r0 (ix2 ⟨(128 * h + d.val) % 256, Nat.mod_lt _ (by decide)⟩ ⟨(256 * q + c.val) % 512, Nat.mod_lt _ (by decide)⟩),
    funext fun n => funext fun j => ?_⟩
  rw [coe_sum', score]
  refine Finset.sum_congr rfl fun d _ => ?_
  rw [EReal.coe_mul, ← h0, ← h1]
  rfl

/-- The values' row of a head, read past the ones. -/
theorem vV_row (h n : ℕ) (l : Fin 64) (j : Fin 256) :
    vV x2 h n (ix2 ⟨l.val, by omega⟩ j) = vBlk x2 h n (ix4 0 0 l j) := by
  rw [vV_apply, dif_pos l.isLt]

theorem vV_ones (h n : ℕ) (j : Fin 256) : vV x2 h n (ix2 64 j) = 1 := by
  rw [vV_apply, dif_neg (by decide)]

/-- A block of outputs at row `256 q + c` and column `64 h + l`. -/
theorem outHalf_eq (h q : ℕ) (c : Fin 256) (l : Fin 64) (hh : h < 2)
    (S : ℕ → Fin 256 → ℝ) (hS : score x0 x1 h q c = fun n j => (S n j : EReal)) (C : ℝ) :
    outHalf x0 x1 x2 q (ix2 c ⟨64 * h + l.val, by omega⟩)
      = ∑ k ∈ Finset.range 17, ∑ j, vBlk x2 h k (ix4 0 0 l j) * Ideal.div (Ideal.exp ((S k j : EReal) * (Real.log 2 : ℝ) - (C : EReal)))
          (∑ k ∈ Finset.range 17, ∑ j, Ideal.exp ((S k j : EReal) * (Real.log 2 : ℝ) - (C : EReal))) := by
  rw [outHalf_apply]
  have e0 : (64 * h + l.val) / 64 = h := by omega
  have e1 : (64 * h + l.val) % 64 = l.val := by omega
  simp only [e0, e1]
  rw [vAcc_apply, vAcc_apply, hS]
  simp only [vV_row, vV_ones]
  exact running_eq S _ 16 C

end Cert.Attn

end
-- ==== Proof.Windows.lean ====
/-
  Where a grid point's blocks lie in the arrays: the point of batch `b`, pair of heads `p` and tile `i` of the queries
  reads the pair's rows of the queries and keys and values of the batch, and writes the pair's columns of the tile.
-/
module

public import proofs.«01_k».proof.Proof.Frame

@[expose] public section

set_option maxRecDepth 16384

noncomputable section

namespace Cert.Attn

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg)

/-- The point's batch, -/
abbrev ptB (t : Fin cfg0.N) : ℕ := t.val / 32
/-- its pair of heads -/
abbrev ptP (t : Fin cfg0.N) : ℕ := t.val / 8 % 4
/-- and its tile of queries. -/
abbrev ptI (t : Fin cfg0.N) : ℕ := t.val % 8

theorem pt_lt (t : Fin cfg0.N) : t.val < 256 := lt_of_lt_of_eq t.isLt (by decide)

theorem ptB_lt (t : Fin cfg0.N) : ptB t < 8 := by have := pt_lt t; unfold ptB; omega
theorem ptP_lt (t : Fin cfg0.N) : ptP t < 4 := by unfold ptP; omega
theorem ptI_lt (t : Fin cfg0.N) : ptI t < 8 := by unfold ptI; omega

theorem index0 : ∀ t : Fin cfg0.N, win0_0.index t 0 = ptP t ∧ win0_0.index t 1 = ptB t * 8 + ptI t :=
  (by decide +kernel : ∀ t : Fin grid0.N, win0_0.index t 0 = t.val / 8 % 4 ∧ win0_0.index t 1 = t.val / 32 * 8 + t.val % 8)

theorem index1 : ∀ t : Fin cfg0.N, win0_1.index t 0 = ptB t ∧ win0_1.index t 1 = 0 ∧ win0_1.index t 2 = ptP t :=
  (by decide +kernel : ∀ t : Fin grid0.N, win0_1.index t 0 = t.val / 32 ∧ win0_1.index t 1 = 0 ∧ win0_1.index t 2 = t.val / 8 % 4)

theorem index2 : ∀ t : Fin cfg0.N,
    win0_2.index t 0 = ptB t ∧ win0_2.index t 1 = 0 ∧ win0_2.index t 2 = ptP t ∧ win0_2.index t 3 = 0 :=
  (by decide +kernel : ∀ t : Fin grid0.N,
    win0_2.index t 0 = t.val / 32 ∧ win0_2.index t 1 = 0 ∧ win0_2.index t 2 = t.val / 8 % 4 ∧ win0_2.index t 3 = 0)

theorem index3 : ∀ t : Fin cfg0.N, win0_3.index t 0 = ptB t * 8 + ptI t ∧ win0_3.index t 1 = ptP t :=
  (by decide +kernel : ∀ t : Fin grid0.N, win0_3.index t 0 = t.val / 32 * 8 + t.val % 8 ∧ win0_3.index t 1 = t.val / 8 % 4)

theorem iblk0_apply (c : Dev nD) (t : Fin cfg0.N) (a : Fin 256) (b : Fin 512) :
    (iblk m c 0 t : Vec F S256x512 .bf16) (ix2 a b)
      = m ((c.tc : Thread nD τ).loc main_arg0)
          (ix2 ⟨ptP t * 256 + a.val, by have := ptB_lt t; have := ptP_lt t; have := ptI_lt t; omega⟩ ⟨(ptB t * 8 + ptI t) * 512 + b.val, by have := ptB_lt t; have := ptP_lt t; have := ptI_lt t; omega⟩ : S1024x36864.Idx) := by
  show m ((c.tc : Thread nD τ).loc main_arg0) ((win0_0.rect t).emb (ix2 a b)) = _
  refine congrArg _ (funext fun d => Fin.ext ?_)
  obtain ⟨e0, e1⟩ := index0 t
  fin_cases d
  · change win0_0.index t 0 * 256 + 1 * a.val = _
    rw [e0, one_mul]; rfl
  · change win0_0.index t 1 * 512 + 1 * b.val = _
    rw [e1, one_mul]; rfl

theorem iblk1_apply (c : Dev nD) (t : Fin cfg0.N) (a : Fin 4352) (b : Fin 256) :
    (iblk m c 1 t : Vec F S1x4352x256 .bf16) (ix3 0 a b)
      = m ((c.tc : Thread nD τ).loc main_arg1)
          (ix3 ⟨ptB t, by have := ptB_lt t; have := ptP_lt t; have := ptI_lt t; omega⟩ a ⟨ptP t * 256 + b.val, by have := ptB_lt t; have := ptP_lt t; have := ptI_lt t; omega⟩ : S8x4352x1024.Idx) := by
  show m ((c.tc : Thread nD τ).loc main_arg1) ((win0_1.rect t).emb (ix3 0 a b)) = _
  refine congrArg _ (funext fun d => Fin.ext ?_)
  obtain ⟨e0, e1, e2⟩ := index1 t
  fin_cases d
  · change win0_1.index t 0 * 1 + 1 * 0 = _
    rw [e0, mul_one]; rfl
  · change win0_1.index t 1 * 4352 + 1 * a.val = _
    rw [e1, one_mul, zero_mul, zero_add]; rfl
  · change win0_1.index t 2 * 256 + 1 * b.val = _
    rw [e2, one_mul]; rfl

theorem iblk2_apply (c : Dev nD) (t : Fin cfg0.N) (n : Fin 17) (a : Fin 128) (b : Fin 256) :
    (iblk m c 2 t : Vec F S1x17x128x256 .bf16) (ix4 0 n a b)
      = m ((c.tc : Thread nD τ).loc main_arg2)
          (ix4 ⟨ptB t, by have := ptB_lt t; have := ptP_lt t; have := ptI_lt t; omega⟩ n ⟨ptP t * 128 + a.val, by have := ptB_lt t; have := ptP_lt t; have := ptI_lt t; omega⟩ b : S8x17x512x256.Idx) := by
  show m ((c.tc : Thread nD τ).loc main_arg2) ((win0_2.rect t).emb (ix4 0 n a b)) = _
  refine congrArg _ (funext fun d => Fin.ext ?_)
  obtain ⟨e0, e1, e2, e3⟩ := index2 t
  fin_cases d
  · change win0_2.index t 0 * 1 + 1 * 0 = _
    rw [e0, mul_one]; rfl
  · change win0_2.index t 1 * 17 + 1 * n.val = _
    rw [e1, one_mul, zero_mul, zero_add]; rfl
  · change win0_2.index t 2 * 128 + 1 * a.val = _
    rw [e2, one_mul]; rfl
  · change win0_2.index t 3 * 256 + 1 * b.val = _
    rw [e3, one_mul, zero_mul, zero_add]; rfl

/-- The place in the result of row `a` and column `b` of the point's block. -/
def place (t : Fin cfg0.N) (a : Fin 512) (b : Fin 128) : S32768x512.Idx :=
  ix2 ⟨(ptB t * 8 + ptI t) * 512 + a.val, by have := ptB_lt t; have := ptP_lt t; have := ptI_lt t; omega⟩ ⟨ptP t * 128 + b.val, by have := ptB_lt t; have := ptP_lt t; have := ptI_lt t; omega⟩

/-- What the point's block of any array of the result's shape reads. -/
theorem blk3_apply (c : Dev nD) (t : Fin cfg0.N) (G : Buf (Elt F) ((c.tc : Thread nD τ).loc main_v0)) (a : Fin 512) (b : Fin 128) :
    (((cfg0.win 3).blk t).view.read (Elt F) G : Vec F S512x128 .bf16) (ix2 a b) = G (place t a b) := by
  show G ((win0_3.rect t).emb (ix2 a b)) = _
  refine congrArg _ (funext fun d => Fin.ext ?_)
  obtain ⟨e0, e1⟩ := index3 t
  fin_cases d
  · change win0_3.index t 0 * 512 + 1 * a.val = _
    rw [e0, one_mul]; rfl
  · change win0_3.index t 1 * 128 + 1 * b.val = _
    rw [e1, one_mul]; rfl

/-- The blocks cover the result. -/
theorem cover3 (i : S32768x512.Idx) :
    ∃ t : Fin cfg0.N, (cfg0.win 3).flush t = true ∧ i ∈ ((cfg0.win 3).blk t).view.set := by
  have h0 : (i 0).val < 32768 := (i 0).isLt
  have h1 : (i 1).val < 512 := (i 1).isLt
  have hN : cfg0.N = 256 := by decide
  let t : Fin cfg0.N := ⟨(i 0).val / 4096 * 32 + (i 1).val / 128 * 8 + (i 0).val / 512 % 8, by omega⟩
  refine ⟨t, flush0_3 t, ?_⟩
  show i ∈ ((View.whole main_v0).slice (win0_3.rect t)).set
  rw [View.set_slice_whole, Rect.mem_set_unit]
  obtain ⟨e0, e1⟩ := index3 t
  have ht : t.val = (i 0).val / 4096 * 32 + (i 1).val / 128 * 8 + (i 0).val / 512 % 8 := rfl
  intro a
  fin_cases a
  · change win0_3.index t 0 * 512 ≤ (i 0).val ∧ (i 0).val < win0_3.index t 0 * 512 + 512
    rw [e0]; unfold ptB ptI; omega
  · change win0_3.index t 1 * 128 ≤ (i 1).val ∧ (i 1).val < win0_3.index t 1 * 128 + 128
    rw [e1]; unfold ptP; omega

end Cert.Attn

end
-- ==== Proof.Result.lean ====
/-
  The whole result: block by block, what the kernel leaves is the reference of its arguments, when the queries and the
  keys are real.
-/
module

public import proofs.«01_k».proof.Proof.Equation
public import proofs.«01_k».proof.Proof.Windows

@[expose] public section

set_option maxRecDepth 16384

noncomputable section

namespace Cert.Attn

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The arguments: the queries, -/
abbrev argQ : FVec Ideal S1024x36864 .bf16 := m ((c.tc : Thread nD τ).loc main_arg0)
/-- the keys -/
abbrev argK : FVec Ideal S8x4352x1024 .bf16 := m ((c.tc : Thread nD τ).loc main_arg1)
/-- and the values. -/
abbrev argV : FVec Ideal S8x17x512x256 .bf16 := m ((c.tc : Thread nD τ).loc main_arg2)

/-- A point's query, as the reference reads it: head `h` of the pair, half `q` of the tile. -/
theorem q_block (t : Fin cfg0.N) (h q : ℕ) (hh : h < 2) (hq : q < 2) (d : Fin 128) (j : Fin 256) :
    qBlk (iblk m c 0 t : Vec Ideal S256x512 .bf16) h q (ix2 d j)
      = Ref.q (argQ m c) (ix4 ⟨ptB t, ptB_lt t⟩ ⟨ptI t * 512 + (256 * q + j.val), by have := ptI_lt t; omega⟩
          ⟨ptP t * 2 + h, by have := ptP_lt t; omega⟩ d) := by
  rw [Ref.q_apply]
  refine (iblk0_apply m c t _ _).trans (congrArg _ (congrArg₂ ix2 (Fin.ext ?_) (Fin.ext ?_)))
  · show ptP t * 256 + (128 * h + d.val) % 256 = (ptP t * 2 + h) * 128 + d.val
    omega
  · show (ptB t * 8 + ptI t) * 512 + (256 * q + j.val) % 512 = ptB t * 4096 + (ptI t * 512 + (256 * q + j.val))
    omega

/-- A point's key. -/
theorem k_block (t : Fin cfg0.N) (h n : ℕ) (hh : h < 2) (hn : n < 17) (j : Fin 256) (d : Fin 128) :
    kBlk (iblk m c 1 t : Vec Ideal S1x4352x256 .bf16) h n (ix3 0 j d)
      = Ref.k (argK m c) (ix4 ⟨ptB t, ptB_lt t⟩ ⟨256 * n + j.val, by omega⟩ ⟨ptP t * 2 + h, by have := ptP_lt t; omega⟩ d) := by
  rw [Ref.k_apply]
  refine (iblk1_apply m c t _ _).trans (congrArg _ (congrArg₂ (ix3 _) (Fin.ext ?_) (Fin.ext ?_)))
  · show (256 * n + j.val) % 4352 = 256 * n + j.val
    omega
  · show ptP t * 256 + (128 * h + d.val) % 256 = (ptP t * 2 + h) * 128 + d.val
    omega

/-- A point's value. -/
theorem v_block (t : Fin cfg0.N) (h n : ℕ) (hh : h < 2) (hn : n < 17) (l : Fin 64) (j : Fin 256) :
    vBlk (iblk m c 2 t : Vec Ideal S1x17x128x256 .bf16) h n (ix4 0 0 l j)
      = Ref.v (argV m c) (ix4 ⟨ptB t, ptB_lt t⟩ ⟨256 * n + j.val, by omega⟩ ⟨ptP t * 2 + h, by have := ptP_lt t; omega⟩ l) := by
  rw [Ref.v_apply]
  have e0 : n % 17 = (256 * n + j.val) / 256 := by omega
  have e1 : ptP t * 128 + (64 * h + l.val) % 128 = (ptP t * 2 + h) * 64 + l.val := by omega
  have e2 : j.val = (256 * n + j.val) % 256 := by omega
  refine (iblk2_apply m c t _ _ _).trans ?_
  simp only [e0]
  exact congrArg _ (congrArg₂ (ix4 _ _) (Fin.ext e1) (Fin.ext e2))

/-- Over real queries and keys, the scores the reference takes its softmax of are those of the point, times `log 2`. -/
theorem x_block (t : Fin cfg0.N) (h q : ℕ) (hh : h < 2) (hq : q < 2) (j : Fin 256) (n : ℕ) (hn : n < 17) (i : Fin 256) :
    Ref.x (argQ m c) (argK m c) (ix4 ⟨ptB t, ptB_lt t⟩ ⟨ptP t * 2 + h, by have := ptP_lt t; omega⟩
        ⟨ptI t * 512 + (256 * q + j.val), by have := ptI_lt t; omega⟩ ⟨256 * n + i.val, by omega⟩)
      = score (iblk m c 0 t : Vec Ideal S256x512 .bf16) (iblk m c 1 t : Vec Ideal S1x4352x256 .bf16) h q j n i
          * ((Real.log 2 : ℝ) : EReal) := by
  rw [Ref.x_apply, score]
  refine congrArg (· * _) (Finset.sum_congr rfl fun d _ => ?_)
  rw [q_block m c t h q hh hq, k_block m c t h n hh hn]
  exact mul_comm _ _

/-- Scores of real queries and keys are real, so is their greatest. -/
theorem mx_real (h0 : ∀ i, ∃ r : ℝ, argQ m c i = (r : EReal)) (h1 : ∀ i, ∃ r : ℝ, argK m c i = (r : EReal))
    (b h : Fin 8) (t : Fin 4096) : ∃ C : ℝ, Ref.mx (argQ m c) (argK m c) (ix3 b h t) = (C : EReal) := by
  choose r0 e0 using h0
  choose r1 e1 using h1
  rw [Ref.mx_apply]
  haveI : Nonempty (Fin 4352) := ⟨0⟩
  obtain ⟨C, hC⟩ := chunkMax_real fun k : Fin 4352 => (∑ d : Fin 128,
    r0 (ix2 ⟨h.val * 128 + d.val, by omega⟩ ⟨b.val * 4096 + t.val, by omega⟩)
      * r1 (ix3 b k ⟨h.val * 128 + d.val, by omega⟩)) * Real.log 2
  refine ⟨C, Eq.trans (congrArg chunkMax (funext fun k => ?_)) hC⟩
  rw [Ref.x_apply, EReal.coe_mul, coe_sum']
  refine congrArg (· * _) (Finset.sum_congr rfl fun d _ => ?_)
  rw [Ref.q_apply, Ref.k_apply, EReal.coe_mul, ← e0, ← e1]

/-- The block of outputs of a point, at half `q` of the tile and head `h` of the pair, is the reference's there. -/
theorem out_block (h0 : ∀ i, ∃ r : ℝ, argQ m c i = (r : EReal)) (h1 : ∀ i, ∃ r : ℝ, argK m c i = (r : EReal))
    (t : Fin cfg0.N) (h q : ℕ) (hh : h < 2) (hq : q < 2) (j : Fin 256) (l : Fin 64) :
    outHalf (iblk m c 0 t : Vec Ideal S256x512 .bf16) (iblk m c 1 t : Vec Ideal S1x4352x256 .bf16)
        (iblk m c 2 t : Vec Ideal S1x17x128x256 .bf16) q (ix2 j ⟨64 * h + l.val, by omega⟩)
      = Ref.out (argQ m c) (argK m c) (argV m c) (place t ⟨256 * q + j.val, by omega⟩ ⟨64 * h + l.val, by omega⟩) := by
  have hB := ptB_lt t
  have hP := ptP_lt t
  have hI := ptI_lt t
  obtain ⟨S, hS⟩ := score_real (iblk m c 0 t : Vec Ideal S256x512 .bf16) (iblk m c 1 t : Vec Ideal S1x4352x256 .bf16)
    (fun i => h0 ((win0_0.rect t).emb i)) (fun i => h1 ((win0_1.rect t).emb i)) h q j
  obtain ⟨C, hC⟩ := mx_real m c h0 h1 ⟨ptB t, hB⟩ ⟨ptP t * 2 + h, by omega⟩ ⟨ptI t * 512 + (256 * q + j.val), by omega⟩
  have hE : ∀ (k : ℕ) (hk : k < 17) (i : Fin 256),
      Ref.e (argQ m c) (argK m c) (ix4 ⟨ptB t, hB⟩ ⟨ptP t * 2 + h, by omega⟩ ⟨ptI t * 512 + (256 * q + j.val), by omega⟩
        ⟨256 * k + i.val, by omega⟩) = Ideal.exp ((S k i : EReal) * (Real.log 2 : ℝ) - (C : EReal)) := fun k hk i => by
    rw [Ref.e_apply, hC, x_block m c t h q hh hq j k hk i, hS]
  rw [outHalf_eq _ _ _ h q j l hh S hS C]
  have eb : ((ptB t * 8 + ptI t) * 512 + (256 * q + j.val)) / 4096 = ptB t := by omega
  have et : ((ptB t * 8 + ptI t) * 512 + (256 * q + j.val)) % 4096 = ptI t * 512 + (256 * q + j.val) := by omega
  have eh : (ptP t * 128 + (64 * h + l.val)) / 64 = ptP t * 2 + h := by omega
  have el : (ptP t * 128 + (64 * h + l.val)) % 64 = l.val := by omega
  unfold place
  rw [Ref.out_apply]
  simp only [eb, et, eh, el]
  refine (sum_chunks _ _ fun k hk i => ?_).symm
  rw [Ref.w_apply, hE k hk i, sum_chunks _ _ hE, v_block m c t h k hh hk]

/-- THE RESULT ARRAY is the reference of the arguments. -/
theorem result_eq (h0 : ∀ i, ∃ r : ℝ, argQ m c i = (r : EReal)) (h1 : ∀ i, ∃ r : ℝ, argK m c i = (r : EReal)) :
    (dats m 0 c).arrAt 3 cfg0.N = Ref.out (argQ m c) (argK m c) (argV m c) := by
  refine (dats m 0 c).arrAt_eq_of_cover 3 (Ref.out (argQ m c) (argK m c) (argV m c)) (fun t _ => ?_) cover3
  show (cfg0.win 3).cut (grid0.coords t) ((dats m 0 c).after 3 t) = _
  rw [after0_3]
  refine funext fun (j : S512x128.Idx) => ?_
  have b0 : (j 0).val < 512 := (j 0).isLt
  have b1 : (j 1).val < 128 := (j 1).isLt
  have ej : j = ix2 (⟨256 * ((j 0).val / 256) + (j 0).val % 256, by omega⟩ : Fin 512)
      (⟨64 * ((j 1).val / 64) + (j 1).val % 64, by omega⟩ : Fin 128) := by
    funext a
    apply Fin.ext
    fin_cases a
    · exact (Nat.div_add_mod _ _).symm
    · exact (Nat.div_add_mod _ _).symm
  have e := out_block m c h0 h1 t ((j 1).val / 64) ((j 0).val / 256) (by omega) (by omega)
    ⟨(j 0).val % 256, by omega⟩ ⟨(j 1).val % 64, by omega⟩
  have er := blk3_apply (F := Ideal) c t (Ref.out (argQ m c) (argK m c) (argV m c))
    ⟨256 * ((j 0).val / 256) + (j 0).val % 256, by omega⟩ ⟨64 * ((j 1).val / 64) + (j 1).val % 64, by omega⟩
  rw [← ej] at er
  refine Eq.trans ?_ (e.trans er.symm)
  have e1 : j 1 = (⟨64 * ((j 1).val / 64) + (j 1).val % 64, by omega⟩ : Fin 128) := Fin.ext (Nat.div_add_mod _ _).symm
  show outHalf _ _ _ ((j 0).val / 256) (ix2 ⟨(j 0).val % 256, _⟩ (j 1)) = _
  exact congrArg _ (congrArg (ix2 _) e1)

end Cert.Attn

end
-- ==== Proof.Finite.lean ====
/-
  The precondition read: its two masks are all ones just when every query and every key is a real number.
-/
module

public import proofs.«01_k».proof.Pre_finite
public import Idealize.ShloMosaic.Lib.Pointwise

@[expose] public section

noncomputable section

namespace Cert.Attn

open Idealize.ShloMosaic

/-- The facts the precondition states. -/
theorem finite_facts : Cert.Pre_finite.Facts := ⟨by decide, by decide⟩

/-- A float whose absolute value lies below the word of infinity is real. -/
theorem real_of_below (x : Ideal .bf16)
    (h : FloatOps.cmpf .olt (FloatOps.hostAbsf x) (FloatOps.ofBits .bf16 0x7F80#16 : Ideal .bf16) = 1#1) :
    ∃ r : ℝ, x = (r : EReal) := by
  have e : (FloatOps.ofBits .bf16 0x7F80#16 : Ideal .bf16) = (⊤ : EReal) := by
    show Ideal.ofBits .bf16 0x7F80#16 = ⊤
    simp [Ideal.ofBits, Ideal.ieee]
  rw [e] at h
  change Ideal.cmp .olt (max x (-x)) ⊤ = 1#1 at h
  induction x using EReal.rec with
  | bot => exact absurd h (by simp [Ideal.cmp])
  | top => exact absurd h (by simp [Ideal.cmp])
  | coe r => exact ⟨r, rfl⟩

variable (A0 : FVec Ideal Cert.Pre_finite.S1024x36864 .bf16) (A1 : FVec Ideal Cert.Pre_finite.S8x4352x1024 .bf16)
  (A2 : FVec Ideal Cert.Pre_finite.S8x17x512x256 .bf16)

theorem queries_real [Cert.Pre_finite.Facts] (h : (Cert.Pre_finite.fn A0 A1 A2).1 = fun _ => 1#1) (i) :
    ∃ r : ℝ, A0 i = (r : EReal) := real_of_below _ (congrFun h i)

theorem keys_real [Cert.Pre_finite.Facts] (h : (Cert.Pre_finite.fn A0 A1 A2).2 = fun _ => 1#1) (i) :
    ∃ r : ℝ, A1 i = (r : EReal) := real_of_below _ (congrFun h i)

end Cert.Attn

end
-- ==== Proof.ExpertsKit.lean ====
/-
  The launch of the experts' kernel: @main up to the region, the two prefetched tables, the windows' blocks, and what the
  frame claim reads off a run.  The pipeline is taken at the tables the launch memory holds, under the side condition that
  the blocks they name lie inside their arrays.
-/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 7 (result 0 (%0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region: the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point. -/
abbrev Ok : Prop := ok0 (F := F) (tbl m)
/-- The tables' contents as ADMISSIBLE contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S608 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run's post to the frame: each argument array ends as it began. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      (Pipeline.RDat.FramePost.arr_in h c 1 rfl).trans ((hA c 1).trans (V_main_arg3 m c)),
      (Pipeline.RDat.FramePost.arr_in h c 2 rfl).trans ((hA c 2).trans (V_main_arg4 m c)),
      (Pipeline.RDat.FramePost.arr_in h c 3 rfl).trans ((hA c 3).trans (V_main_arg5 m c)),
      (Pipeline.RDat.FramePost.arr_in h c 4 rfl).trans ((hA c 4).trans (V_main_arg6 m c)),
      (Pipeline.RDat.FramePost.arr_in h c 5 rfl).trans ((hA c 5).trans (V_main_arg7 m c)),
      (Pipeline.RDat.FramePost.arr_in h c 6 rfl).trans ((hA c 6).trans (V_main_arg8 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x8x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x8x128 .f32 := spec0_7.stage ((cfgM m hO).slots t 7)
abbrev hs0_7 (hO : Ok m) (t : Fin (cfgM m hO).N) : (ms0_7 m hO t).IsWhole := hstage0_7 (((cfgM m hO).slots t 7).cast nbuf0_7)

end Cert.Experts

end
-- ==== Proof.ExpertsRun.lean ====
/-
  The experts' body run once on whole staging buffers, in its two cases: a block in use, whose rows the expert's network is
  applied to, and a block past the last one in use, which is filled with zeros.
-/
module

public import proofs.«01_k».proof.Proof.ExpertsKit

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- A block in use: what the body stores in the output's buffer, seen as 2048 rows of 128 numbers, last store first. -/
def runUsed (c : Dev nD) (i : grid0.Coords) (arg3 : Memref sig .tc .vmem S256x8x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x8x128 .f32) (harg10 : arg10.IsWhole)
    (x0 : Vec F S256x8x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (k0_h1 : k0_cond1 i (View.readAt (Elt F) tbM0_1.view (Rect.unit (s := S1) ![0] S1.size inb_S1_S1_0).toLoadRect xt1 (Shape.Idx.first (numel1_S1.symm ▸ Nat.one_pos))) = 1#1) (k0_h2 : ¬(k0_cond2 i (View.readAt (Elt F) tbM0_1.view (Rect.unit (s := S1) ![0] S1.size inb_S1_S1_0).toLoadRect xt1 (Shape.Idx.first (numel1_S1.symm ▸ Nat.one_pos))) = 1#1)) :
    { L : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, (arg10.reshape S2048x128 reshapes_S256x8x128_S2048x128.1 reshapes_S256x8x128_S2048x128.2 harg10.contiguous).view.loc (c : Thread nD τ) ↦[(arg10.reshape S2048x128 reshapes_S256x8x128_S2048x128.1 reshapes_S256x8x128_S2048x128.2 harg10.contiguous).view.set]{fullShare} (arg10.reshape S2048x128 reshapes_S256x8x128_S2048x128.1 reshapes_S256x8x128_S2048x128.2 harg10.contiguous).view.writes (Elt F) f L) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    have e7 : (arg10.view.loc (c : Thread nD τ) ↦[arg10.view.set]{fullShare} f7 : sProp 𝕄) ⊢ ((arg10.reshape S2048x128 reshapes_S256x8x128_S2048x128.1 reshapes_S256x8x128_S2048x128.2 harg10.contiguous).view.loc (c : Thread nD τ) ↦[(arg10.reshape S2048x128 reshapes_S256x8x128_S2048x128.1 reshapes_S256x8x128_S2048x128.2 harg10.contiguous).view.set]{fullShare} f7) := by
      rw [show (arg10.reshape S2048x128 reshapes_S256x8x128_S2048x128.1 reshapes_S256x8x128_S2048x128.2 harg10.contiguous).view.set = arg10.view.set from View.set_reshape _ _]
    ihave H7' := e7 $$ H7
    sl_exec! (disch := first | (guard_target = k0_cond1 _ _ = _; exact k0_h1) | (guard_target = ¬(k0_cond2 _ _ = _); exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7']; · iexists _; iexact H7'
    isplitl [HT0]; · iexact HT0
    iexact HT1

set_option backward.proofsInPublic true in
set_option maxHeartbeats 8000000 in
/-- A block past the last one in use: what the body stores in the output's buffer. -/
def runUnused (c : Dev nD) (i : grid0.Coords) (arg3 : Memref sig .tc .vmem S256x8x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x8x128 .f32) (harg10 : arg10.IsWhole)
    (x0 : Vec F S256x8x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (k0_h1 : ¬(k0_cond1 i (View.readAt (Elt F) tbM0_1.view (Rect.unit (s := S1) ![0] S1.size inb_S1_S1_0).toLoadRect xt1 (Shape.Idx.first (numel1_S1.symm ▸ Nat.one_pos))) = 1#1)) (k0_h2 : k0_cond2 i (View.readAt (Elt F) tbM0_1.view (Rect.unit (s := S1) ![0] S1.size inb_S1_S1_0).toLoadRect xt1 (Shape.Idx.first (numel1_S1.symm ▸ Nat.one_pos))) = 1#1) :
    { L : List (View.Piece (Elt F) S256x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec! (disch := first | (guard_target = ¬(k0_cond1 _ _ = _); exact k0_h1) | (guard_target = k0_cond2 _ _ = _; exact k0_h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HT0]; · iexact HT0
    iexact HT1

end Cert.Experts

end
-- ==== Proof.ExpertsBlock.lean ====
/-
  What one call of the experts' body leaves in its output block, as a function of the blocks it reads: a block in use holds the
  network's rows, a block past the last one in use holds zeros.
-/
module

public import proofs.«01_k».proof.Proof.ExpertsRun
public import Idealize.ShloMosaic.Lib.WholeRead
public import Idealize.ShloMosaic.Lib.ValueIdxCore
public import Idealize.ShloMosaic.Lib.Writes

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Group `j` of 128 columns of the block's rows. -/
def slab (j : Fin 8) (X : S256x8x128.Idx → Elt F .f32) : Vec F S256x128 .f32 := fun x => X (ValueIdx.ix3 (x 0) j (x 1))

/-- The network of one expert on the 256 rows of a block. -/
def rowsOut (x0 : S256x8x128.Idx → Elt F .f32) (x1 x2 : S1x1024x1024.Idx → Elt F .bf16) (x3 x4 : S1x1x1024.Idx → Elt F .f32)
    (x5 : S1x1024x1024.Idx → Elt F .bf16) (x6 : S1x1x1024.Idx → Elt F .f32) : FVec F S256x1024 .f32 :=
  k0_pay9 (k0_pay6 (slab 0 x0) (slab 1 x0) (slab 2 x0) (slab 3 x0) (slab 4 x0) (slab 5 x0) (slab 6 x0) (slab 7 x0) x1 x3)
    (k0_pay7 (slab 0 x0) (slab 1 x0) (slab 2 x0) (slab 3 x0) (slab 4 x0) (slab 5 x0) (slab 6 x0) (slab 7 x0) x2)
    (k0_pay8 x4) x5 x6

/-- The rows in the block's layout: column `128 j + k` of a row is lane `k` of its group `j`. -/
def usedBlock (x0 : S256x8x128.Idx → Elt F .f32) (x1 x2 : S1x1024x1024.Idx → Elt F .bf16) (x3 x4 : S1x1x1024.Idx → Elt F .f32)
    (x5 : S1x1024x1024.Idx → Elt F .bf16) (x6 : S1x1x1024.Idx → Elt F .f32) : S256x8x128.Idx → Elt F .f32 :=
  fun y => rowsOut x0 x1 x2 x3 x4 x5 x6 (ValueIdx.ix2 (y 0) ⟨128 * (y 1).val + (y 2).val, by
    have h1 : (y 1).val < 8 := (y 1).isLt
    have h2 : (y 2).val < 128 := (y 2).isLt
    omega⟩)

/-- The block filled with zeros. -/
def zeroBlock : S256x8x128.Idx → Elt F .f32 := k0_pay4 (F := F)

/-- Row `8 r + j` of the block seen as 2048 rows is group `j` of row `r`. -/
theorem reshape_row (r : Fin 256) (j : Fin 8) (k : Fin 128) (h : S2048x128.numel = S256x8x128.numel) (hl : 8 * r.val + j.val < 2048) :
    Shape.reshapeEquiv h (ValueIdx.ix2 (⟨8 * r.val + j.val, hl⟩ : Fin 2048) k) = (ValueIdx.ix3 r j k : S256x8x128.Idx) :=
  Shape.reshapeEquiv_eq_of_rowMajor h (by
    rw [Shape.rowMajor_val_three, Shape.rowMajor_val_two]
    show (r.val * 8 + j.val) * 128 + k.val = (8 * r.val + j.val) * 128 + k.val
    omega)

/-- Every eighth row of the input's block, from row `j`, is its group `j`. -/
theorem load_slab (arg3 : Memref sig .tc .vmem S256x8x128 .f32) (harg3 : arg3.IsWhole) (x0 : S256x8x128.Idx → Elt F .f32) (j : Fin 8)
    (h : S2048x128.numel = S256x8x128.numel) (hr) (hc)
    (inb : ∀ a, (S256x128.size a = 0) ∨ (![j.val, 0] : Fin 2 → ℕ) a + (![8, 1] : Fin 2 → ℕ) a * (S256x128.size a - 1) < S2048x128.size a) :
    View.readAt (Elt F) (arg3.reshape S2048x128 h hr hc).view (⟨![j.val, 0], S256x128.size, ![8, 1], inb⟩ : LoadRect S2048x128) (harg3.unread x0)
      = slab j x0 := by
  funext x
  have e : View.readAt (Elt F) (arg3.reshape S2048x128 h hr hc).view (⟨![j.val, 0], S256x128.size, ![8, 1], inb⟩ : LoadRect S2048x128) (harg3.unread x0) x
      = x0 (Shape.reshapeEquiv h ((⟨![j.val, 0], S256x128.size, ![8, 1], inb⟩ : LoadRect S2048x128).idx x)) := congrFun (harg3.read_unread x0) _
  have hx : (x 0).val < 256 := (x 0).isLt
  have hi : (⟨![j.val, 0], S256x128.size, ![8, 1], inb⟩ : LoadRect S2048x128).idx x
      = (ValueIdx.ix2 (⟨8 * (x 0).val + j.val, by omega⟩ : Fin 2048) (x 1 : Fin 128) : S2048x128.Idx) := by
    funext a; match a with
      | ⟨0, _⟩ => exact Fin.ext (Nat.add_comm _ _)
      | ⟨1, _⟩ => exact Fin.ext (by show 0 + 1 * (x 1).val = (x 1).val; omega)
  exact e.trans (congrArg x0 ((congrArg (Shape.reshapeEquiv h) hi).trans (reshape_row (x 0) j (x 1) h _)))

/-- A load of a whole buffer reads its contents. -/
theorem load_weights (M : Memref sig .tc .vmem S1x1024x1024 .bf16) (hM : M.IsWhole) (X : S1x1024x1024.Idx → Elt F .bf16)
    (inb : ∀ a, (![0, 0, 0] : Fin 3 → ℕ) a + S1x1024x1024.size a ≤ S1x1024x1024.size a) :
    View.readAt (Elt F) M.view (Rect.unit (s := S1x1024x1024) ![0, 0, 0] S1x1024x1024.size inb).toLoadRect (hM.unread X) = X := by
  funext x
  rw [hM.readAt_unread]
  congr 1; funext a; exact Fin.ext (by fin_cases a <;> (show 0 + 1 * _ = _; omega))

/-- The same of a bias. -/
theorem load_bias (M : Memref sig .tc .vmem S1x1x1024 .f32) (hM : M.IsWhole) (X : S1x1x1024.Idx → Elt F .f32)
    (inb : ∀ a, (![0, 0, 0] : Fin 3 → ℕ) a + S1x1x1024.size a ≤ S1x1x1024.size a) :
    View.readAt (Elt F) M.view (Rect.unit (s := S1x1x1024) ![0, 0, 0] S1x1x1024.size inb).toLoadRect (hM.unread X) = X := by
  funext x
  rw [hM.readAt_unread]
  congr 1; funext a; exact Fin.ext (by fin_cases a <;> (show 0 + 1 * _ = _; omega))

/-- A store of 256 rows, every eighth from row `j`, of the block's columns `128 j` to `128 j + 127`: what it puts at a place is the rows'
    value there. -/
theorem piece_agrees (Y : FVec F S256x1024 .f32) (j : Fin 8) (G : S2048x128.Idx → Elt F .f32)
    (hG : ∀ (r : Fin 256) (j : Fin 8) (k : Fin 128) (h1 : 8 * r.val + j.val < 2048) (h2 : 128 * j.val + k.val < 1024),
      G (ValueIdx.ix2 ⟨8 * r.val + j.val, h1⟩ k) = Y (ValueIdx.ix2 r ⟨128 * j.val + k.val, h2⟩))
    (inb : ∀ a, (S256x128.size a = 0) ∨ (![j.val, 0] : Fin 2 → ℕ) a + (![8, 1] : Fin 2 → ℕ) a * (S256x128.size a - 1) < S2048x128.size a) (sp)
    (hs : S256x1024.Slices ![0, 128 * j.val] S256x128) (x : S256x128.Idx) :
    extractStridedSlice S256x128 ![0, 128 * j.val] Y hs x
      = G ((⟨(⟨![j.val, 0], S256x128.size, ![8, 1], inb⟩ : LoadRect S2048x128), sp⟩ : Rect S2048x128).emb x) := by
  have hx : (x 0).val < 256 := (x 0).isLt
  have hk : (x 1).val < 128 := (x 1).isLt
  have hi : (⟨(⟨![j.val, 0], S256x128.size, ![8, 1], inb⟩ : LoadRect S2048x128), sp⟩ : Rect S2048x128).emb x
      = (ValueIdx.ix2 (⟨8 * (x 0).val + j.val, by omega⟩ : Fin 2048) (x 1 : Fin 128) : S2048x128.Idx) := by
    funext a; match a with
      | ⟨0, _⟩ => exact Fin.ext (Nat.add_comm _ _)
      | ⟨1, _⟩ => exact Fin.ext (by show 0 + 1 * (x 1).val = (x 1).val; omega)
  refine Eq.trans ?_ ((congrArg G hi).trans (hG (x 0) j (x 1) (by omega) (by omega))).symm
  refine congrArg Y ?_
  funext a; match a with
    | ⟨0, _⟩ => exact Fin.ext (Nat.zero_add _)
    | ⟨1, _⟩ => exact Fin.ext rfl

/-- Row `8 r + j` lies among the rows stored from row `j`. -/
theorem mem_piece (y : S2048x128.Idx) (j : Fin 8) (hj : (y 0).val % 8 = j.val)
    (inb : ∀ a, (S256x128.size a = 0) ∨ (![j.val, 0] : Fin 2 → ℕ) a + (![8, 1] : Fin 2 → ℕ) a * (S256x128.size a - 1) < S2048x128.size a) (sp) :
    y ∈ (⟨(⟨![j.val, 0], S256x128.size, ![8, 1], inb⟩ : LoadRect S2048x128), sp⟩ : Rect S2048x128).set := by
  have h0 : (y 0).val < 2048 := (y 0).isLt
  rw [← Rect.map_emb_univ, Finset.mem_map]
  refine ⟨(ValueIdx.ix2 ⟨(y 0).val / 8, by omega⟩ (y 1) : S256x128.Idx), Finset.mem_univ _, ?_⟩
  funext a; match a with
    | ⟨0, _⟩ => exact Fin.ext (by show j.val + 8 * ((y 0).val / 8) = (y 0).val; omega)
    | ⟨1, _⟩ => exact Fin.ext (by show 0 + 1 * (y 1).val = (y 1).val; omega)

/-- What a block in use reads after the body: the network's rows. -/
theorem read_used (c : Dev nD) (i : grid0.Coords) (arg3 : Memref sig .tc .vmem S256x8x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x8x128 .f32) (harg10 : arg10.IsWhole)
    (x0 : Vec F S256x8x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (k0_h1 : k0_cond1 i (View.readAt (Elt F) tbM0_1.view (Rect.unit (s := S1) ![0] S1.size inb_S1_S1_0).toLoadRect xt1 (Shape.Idx.first (numel1_S1.symm ▸ Nat.one_pos))) = 1#1) (k0_h2 : ¬(k0_cond2 i (View.readAt (Elt F) tbM0_1.view (Rect.unit (s := S1) ![0] S1.size inb_S1_S1_0).toLoadRect xt1 (Shape.Idx.first (numel1_S1.symm ▸ Nat.one_pos))) = 1#1)) (f) :
    arg10.view.read (Elt F) ((arg10.reshape S2048x128 reshapes_S256x8x128_S2048x128.1 reshapes_S256x8x128_S2048x128.2 harg10.contiguous).view.writes (Elt F) f (runUsed c i arg3 harg3 arg4 harg4 arg5 harg5 arg6 harg6 arg7 harg7 arg8 harg8 arg9 harg9 arg10 harg10 x0 x1 x2 x3 x4 x5 x6 xt0 xt1 k0_h1 k0_h2).1) = usedBlock x0 x1 x2 x3 x4 x5 x6 := by
  have H : ∀ y : S2048x128.Idx, (arg10.reshape S2048x128 reshapes_S256x8x128_S2048x128.1 reshapes_S256x8x128_S2048x128.2 harg10.contiguous).view.read (Elt F) ((arg10.reshape S2048x128 reshapes_S256x8x128_S2048x128.1 reshapes_S256x8x128_S2048x128.2 harg10.contiguous).view.writes (Elt F) f (runUsed c i arg3 harg3 arg4 harg4 arg5 harg5 arg6 harg6 arg7 harg7 arg8 harg8 arg9 harg9 arg10 harg10 x0 x1 x2 x3 x4 x5 x6 xt0 xt1 k0_h1 k0_h2).1) y
      = usedBlock x0 x1 x2 x3 x4 x5 x6 (Shape.reshapeEquiv reshapes_S256x8x128_S2048x128.1 y) := by
    intro y
    have e4 : runUsed.sl.r_4 c arg3 harg3 arg4 harg4 arg5 harg5 arg6 harg6 arg7 harg7 arg8 harg8 arg9 harg9 x0 x1 x2 x3 x4 x5 x6
        = rowsOut x0 x1 x2 x3 x4 x5 x6 := by
      unfold runUsed.sl.r_4 runUsed.sl.r_1 runUsed.sl.r_2 runUsed.sl.r_3 runUsed.sl.v9 runUsed.sl.v11 runUsed.sl.v13 runUsed.sl.v15 runUsed.sl.v17 runUsed.sl.v19 runUsed.sl.v21 runUsed.sl.v23
      rw [load_weights, load_weights, load_weights, load_bias, load_bias, load_bias]
      have l0 : View.readAt (Elt F) (arg3.reshape S2048x128 reshapes_S256x8x128_S2048x128.1 reshapes_S256x8x128_S2048x128.2 harg3.contiguous).view (⟨![0, 0], S256x128.size, ![8, 1], inb_S2048x128_S256x128_0_0_s_8_1⟩ : LoadRect S2048x128) (harg3.unread x0) = slab 0 x0 := load_slab arg3 harg3 x0 0 _ _ _ _
      have l1 : View.readAt (Elt F) (arg3.reshape S2048x128 reshapes_S256x8x128_S2048x128.1 reshapes_S256x8x128_S2048x128.2 harg3.contiguous).view (⟨![1, 0], S256x128.size, ![8, 1], inb_S2048x128_S256x128_1_0_s_8_1⟩ : LoadRect S2048x128) (harg3.unread x0) = slab 1 x0 := load_slab arg3 harg3 x0 1 _ _ _ _
      have l2 : View.readAt (Elt F) (arg3.reshape S2048x128 reshapes_S256x8x128_S2048x128.1 reshapes_S256x8x128_S2048x128.2 harg3.contiguous).view (⟨![2, 0], S256x128.size, ![8, 1], inb_S2048x128_S256x128_2_0_s_8_1⟩ : LoadRect S2048x128) (harg3.unread x0) = slab 2 x0 := load_slab arg3 harg3 x0 2 _ _ _ _
      have l3 : View.readAt (Elt F) (arg3.reshape S2048x128 reshapes_S256x8x128_S2048x128.1 reshapes_S256x8x128_S2048x128.2 harg3.contiguous).view (⟨![3, 0], S256x128.size, ![8, 1], inb_S2048x128_S256x128_3_0_s_8_1⟩ : LoadRect S2048x128) (harg3.unread x0) = slab 3 x0 := load_slab arg3 harg3 x0 3 _ _ _ _
      have l4 : View.readAt (Elt F) (arg3.reshape S2048x128 reshapes_S256x8x128_S2048x128.1 reshapes_S256x8x128_S2048x128.2 harg3.contiguous).view (⟨![4, 0], S256x128.size, ![8, 1], inb_S2048x128_S256x128_4_0_s_8_1⟩ : LoadRect S2048x128) (harg3.unread x0) = slab 4 x0 := load_slab arg3 harg3 x0 4 _ _ _ _
      have l5 : View.readAt (Elt F) (arg3.reshape S2048x128 reshapes_S256x8x128_S2048x128.1 reshapes_S256x8x128_S2048x128.2 harg3.contiguous).view (⟨![5, 0], S256x128.size, ![8, 1], inb_S2048x128_S256x128_5_0_s_8_1⟩ : LoadRect S2048x128) (harg3.unread x0) = slab 5 x0 := load_slab arg3 harg3 x0 5 _ _ _ _
      have l6 : View.readAt (Elt F) (arg3.reshape S2048x128 reshapes_S256x8x128_S2048x128.1 reshapes_S256x8x128_S2048x128.2 harg3.contiguous).view (⟨![6, 0], S256x128.size, ![8, 1], inb_S2048x128_S256x128_6_0_s_8_1⟩ : LoadRect S2048x128) (harg3.unread x0) = slab 6 x0 := load_slab arg3 harg3 x0 6 _ _ _ _
      have l7 : View.readAt (Elt F) (arg3.reshape S2048x128 reshapes_S256x8x128_S2048x128.1 reshapes_S256x8x128_S2048x128.2 harg3.contiguous).view (⟨![7, 0], S256x128.size, ![8, 1], inb_S2048x128_S256x128_7_0_s_8_1⟩ : LoadRect S2048x128) (harg3.unread x0) = slab 7 x0 := load_slab arg3 harg3 x0 7 _ _ _ _
      rw [l0, l1, l2, l3, l4, l5, l6, l7]
      rfl
    have hG : ∀ (r : Fin 256) (j : Fin 8) (k : Fin 128) (h1 : 8 * r.val + j.val < 2048) (h2 : 128 * j.val + k.val < 1024),
        usedBlock x0 x1 x2 x3 x4 x5 x6 (Shape.reshapeEquiv reshapes_S256x8x128_S2048x128.1 (ValueIdx.ix2 (⟨8 * r.val + j.val, h1⟩ : Fin 2048) k))
          = runUsed.sl.r_4 c arg3 harg3 arg4 harg4 arg5 harg5 arg6 harg6 arg7 harg7 arg8 harg8 arg9 harg9 x0 x1 x2 x3 x4 x5 x6 (ValueIdx.ix2 r ⟨128 * j.val + k.val, h2⟩) := fun r j k h1 h2 => by
      rw [reshape_row, e4]; rfl
    refine View.read_writes_apply_of_pieces _ _ (fun y => usedBlock x0 x1 x2 x3 x4 x5 x6 (Shape.reshapeEquiv reshapes_S256x8x128_S2048x128.1 y)) _ ?_ y ?_
    · unfold runUsed
      dsimp only
      intro p hp x
      simp only [List.mem_cons, List.not_mem_nil] at hp
      rcases hp with rfl | rfl | rfl | rfl | rfl | rfl | rfl | rfl | h
      · exact piece_agrees (runUsed.sl.r_4 c arg3 harg3 arg4 harg4 arg5 harg5 arg6 harg6 arg7 harg7 arg8 harg8 arg9 harg9 x0 x1 x2 x3 x4 x5 x6) 7 (fun y => usedBlock x0 x1 x2 x3 x4 x5 x6 (Shape.reshapeEquiv reshapes_S256x8x128_S2048x128.1 y)) hG _ _ slices_S256x1024_o0_896_S256x128 x
      · exact piece_agrees (runUsed.sl.r_4 c arg3 harg3 arg4 harg4 arg5 harg5 arg6 harg6 arg7 harg7 arg8 harg8 arg9 harg9 x0 x1 x2 x3 x4 x5 x6) 6 (fun y => usedBlock x0 x1 x2 x3 x4 x5 x6 (Shape.reshapeEquiv reshapes_S256x8x128_S2048x128.1 y)) hG _ _ slices_S256x1024_o0_768_S256x128 x
      · exact piece_agrees (runUsed.sl.r_4 c arg3 harg3 arg4 harg4 arg5 harg5 arg6 harg6 arg7 harg7 arg8 harg8 arg9 harg9 x0 x1 x2 x3 x4 x5 x6) 5 (fun y => usedBlock x0 x1 x2 x3 x4 x5 x6 (Shape.reshapeEquiv reshapes_S256x8x128_S2048x128.1 y)) hG _ _ slices_S256x1024_o0_640_S256x128 x
      · exact piece_agrees (runUsed.sl.r_4 c arg3 harg3 arg4 harg4 arg5 harg5 arg6 harg6 arg7 harg7 arg8 harg8 arg9 harg9 x0 x1 x2 x3 x4 x5 x6) 4 (fun y => usedBlock x0 x1 x2 x3 x4 x5 x6 (Shape.reshapeEquiv reshapes_S256x8x128_S2048x128.1 y)) hG _ _ slices_S256x1024_o0_512_S256x128 x
      · exact piece_agrees (runUsed.sl.r_4 c arg3 harg3 arg4 harg4 arg5 harg5 arg6 harg6 arg7 harg7 arg8 harg8 arg9 harg9 x0 x1 x2 x3 x4 x5 x6) 3 (fun y => usedBlock x0 x1 x2 x3 x4 x5 x6 (Shape.reshapeEquiv reshapes_S256x8x128_S2048x128.1 y)) hG _ _ slices_S256x1024_o0_384_S256x128 x
      · exact piece_agrees (runUsed.sl.r_4 c arg3 harg3 arg4 harg4 arg5 harg5 arg6 harg6 arg7 harg7 arg8 harg8 arg9 harg9 x0 x1 x2 x3 x4 x5 x6) 2 (fun y => usedBlock x0 x1 x2 x3 x4 x5 x6 (Shape.reshapeEquiv reshapes_S256x8x128_S2048x128.1 y)) hG _ _ slices_S256x1024_o0_256_S256x128 x
      · exact piece_agrees (runUsed.sl.r_4 c arg3 harg3 arg4 harg4 arg5 harg5 arg6 harg6 arg7 harg7 arg8 harg8 arg9 harg9 x0 x1 x2 x3 x4 x5 x6) 1 (fun y => usedBlock x0 x1 x2 x3 x4 x5 x6 (Shape.reshapeEquiv reshapes_S256x8x128_S2048x128.1 y)) hG _ _ slices_S256x1024_o0_128_S256x128 x
      · exact piece_agrees (runUsed.sl.r_4 c arg3 harg3 arg4 harg4 arg5 harg5 arg6 harg6 arg7 harg7 arg8 harg8 arg9 harg9 x0 x1 x2 x3 x4 x5 x6) 0 (fun y => usedBlock x0 x1 x2 x3 x4 x5 x6 (Shape.reshapeEquiv reshapes_S256x8x128_S2048x128.1 y)) hG _ _ slices_S256x1024_o0_0_S256x128 x
      · exact h.elim
    · unfold runUsed
      dsimp only
      have hm := Nat.mod_lt (y 0).val (by decide : 0 < 8)
      generalize hj : (y 0).val % 8 = j at hm
      interval_cases j
      · exact ⟨_, .tail _ (.tail _ (.tail _ (.tail _ (.tail _ (.tail _ (.tail _ (.head _))))))), mem_piece y 0 hj _ _⟩
      · exact ⟨_, .tail _ (.tail _ (.tail _ (.tail _ (.tail _ (.tail _ (.head _)))))), mem_piece y 1 hj _ _⟩
      · exact ⟨_, .tail _ (.tail _ (.tail _ (.tail _ (.tail _ (.head _))))), mem_piece y 2 hj _ _⟩
      · exact ⟨_, .tail _ (.tail _ (.tail _ (.tail _ (.head _)))), mem_piece y 3 hj _ _⟩
      · exact ⟨_, .tail _ (.tail _ (.tail _ (.head _))), mem_piece y 4 hj _ _⟩
      · exact ⟨_, .tail _ (.tail _ (.head _)), mem_piece y 5 hj _ _⟩
      · exact ⟨_, .tail _ (.head _), mem_piece y 6 hj _ _⟩
      · exact ⟨_, .head _, mem_piece y 7 hj _ _⟩
  funext y
  have e := H ((Shape.reshapeEquiv reshapes_S256x8x128_S2048x128.1).symm y)
  rw [Equiv.apply_symm_apply] at e
  rw [← e]
  show _ = arg10.view.read (Elt F) _ (Shape.reshapeEquiv reshapes_S256x8x128_S2048x128.1 ((Shape.reshapeEquiv reshapes_S256x8x128_S2048x128.1).symm y))
  rw [Equiv.apply_symm_apply]

/-- What a block past the last one in use reads after the body: zeros. -/
theorem read_unused (c : Dev nD) (i : grid0.Coords) (arg3 : Memref sig .tc .vmem S256x8x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x8x128 .f32) (harg10 : arg10.IsWhole)
    (x0 : Vec F S256x8x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (k0_h1 : ¬(k0_cond1 i (View.readAt (Elt F) tbM0_1.view (Rect.unit (s := S1) ![0] S1.size inb_S1_S1_0).toLoadRect xt1 (Shape.Idx.first (numel1_S1.symm ▸ Nat.one_pos))) = 1#1)) (k0_h2 : k0_cond2 i (View.readAt (Elt F) tbM0_1.view (Rect.unit (s := S1) ![0] S1.size inb_S1_S1_0).toLoadRect xt1 (Shape.Idx.first (numel1_S1.symm ▸ Nat.one_pos))) = 1#1) (f) :
    arg10.view.read (Elt F) (arg10.view.writes (Elt F) f (runUnused c i arg3 harg3 arg4 harg4 arg5 harg5 arg6 harg6 arg7 harg7 arg8 harg8 arg9 harg9 arg10 harg10 x0 x1 x2 x3 x4 x5 x6 xt0 xt1 k0_h1 k0_h2).1) = zeroBlock := by
  funext y
  refine View.read_writes_apply_of_pieces _ _ (zeroBlock (F := F)) _ ?_ y ?_
  · unfold runUnused runUnused.sl.H7_1
    dsimp only
    intro p hp x
    simp only [List.mem_cons, List.not_mem_nil] at hp
    rcases hp with rfl | h
    · rfl
    · exact h.elim
  · unfold runUnused runUnused.sl.H7_1
    dsimp only
    refine ⟨_, List.mem_cons_self, ?_⟩
    have h0 : (y 0).val < 256 := (y 0).isLt
    have h1 : (y 1).val < 8 := (y 1).isLt
    have h2 : (y 2).val < 128 := (y 2).isLt
    show y ∈ (Rect.unit (s := S256x8x128) ![0, 0, 0] ![256, 8, 128] inb_S256x8x128_S256x8x128_0_0_0).set
    rw [Rect.mem_set_unit]
    intro a
    match a with
    | ⟨0, _⟩ => exact ⟨Nat.zero_le _, by show (y 0).val < 0 + 256; omega⟩
    | ⟨1, _⟩ => exact ⟨Nat.zero_le _, by show (y 1).val < 0 + 8; omega⟩
    | ⟨2, _⟩ => exact ⟨Nat.zero_le _, by show (y 2).val < 0 + 128; omega⟩

/-- A block held as 2048 rows of 128 is held as the block it is. -/
theorem owns_rows (c : Dev nD) (M : Memref sig .tc .vmem S256x8x128 .f32) (hM : M.IsWhole) (v : Vec F S256x8x128 .f32) (g) (e : M.view.read (Elt F) g = v) :
    ((M.reshape S2048x128 reshapes_S256x8x128_S2048x128.1 reshapes_S256x8x128_S2048x128.2 hM.contiguous).view.loc (c : Thread nD τ) ↦[(M.reshape S2048x128 reshapes_S256x8x128_S2048x128.1 reshapes_S256x8x128_S2048x128.2 hM.contiguous).view.set]{fullShare} g : sProp 𝕄) ⊢ owns (c : Thread nD τ) M fullShare v := by
  rw [show (M.reshape S2048x128 reshapes_S256x8x128_S2048x128.1 reshapes_S256x8x128_S2048x128.2 hM.contiguous).view.set = M.view.set from View.set_reshape _ _]
  unfold owns
  iintro H
  iexists g
  isplitr
  · ipureintro; exact e
  · iexact H

/-- A block's buffer whose contents read as `v` is a block owned at `v`. -/
theorem owns_block (c : Dev nD) (M : Memref sig .tc .vmem S256x8x128 .f32) (v : Vec F S256x8x128 .f32) (g) (e : M.view.read (Elt F) g = v) :
    (M.view.loc (c : Thread nD τ) ↦[M.view.set]{fullShare} g : sProp 𝕄) ⊢ owns (c : Thread nD τ) M fullShare v := by
  unfold owns
  iintro H
  iexists g
  isplitr
  · ipureintro; exact e
  · iexact H

set_option maxHeartbeats 1000000 in
/-- A block in use: the body leaves the network's rows. -/
theorem used_run (c : Dev nD) (i : grid0.Coords) (arg3 : Memref sig .tc .vmem S256x8x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x8x128 .f32) (harg10 : arg10.IsWhole)
    (x0 : Vec F S256x8x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (k0_h1 : k0_cond1 i (View.readAt (Elt F) tbM0_1.view (Rect.unit (s := S1) ![0] S1.size inb_S1_S1_0).toLoadRect xt1 (Shape.Idx.first (numel1_S1.symm ▸ Nat.one_pos))) = 1#1) (k0_h2 : ¬(k0_cond2 i (View.readAt (Elt F) tbM0_1.view (Rect.unit (s := S1) ![0] S1.size inb_S1_S1_0).toLoadRect xt1 (Shape.Idx.first (numel1_S1.symm ▸ Nat.one_pos))) = 1#1)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (usedBlock x0 x1 x2 x3 x4 x5 x6) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  intro E K
  iintro ⟨H0, H1, H2, H3, H4, H5, H6, H7, HT0, HT1, Hk⟩
  iapply ((runUsed c i arg3 harg3 arg4 harg4 arg5 harg5 arg6 harg6 arg7 harg7 arg8 harg8 arg9 harg9 arg10 harg10 x0 x1 x2 x3 x4 x5 x6 xt0 xt1 k0_h1 k0_h2).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  iintro ⟨H0, H1, H2, H3, H4, H5, H6, ⟨%f, H7⟩, HT0, HT1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_rows c arg10 harg10 _ _ (read_used c i arg3 harg3 arg4 harg4 arg5 harg5 arg6 harg6 arg7 harg7 arg8 harg8 arg9 harg9 arg10 harg10 x0 x1 x2 x3 x4 x5 x6 xt0 xt1 k0_h1 k0_h2 f))
    iexact H7
  isplitl [HT0]; · iexact HT0
  iexact HT1

set_option maxHeartbeats 1000000 in
/-- A block past the last one in use: the body leaves zeros. -/
theorem unused_run (c : Dev nD) (i : grid0.Coords) (arg3 : Memref sig .tc .vmem S256x8x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x8x128 .f32) (harg10 : arg10.IsWhole)
    (x0 : Vec F S256x8x128 .f32) (x1 : Vec F S1x1024x1024 .bf16) (x2 : Vec F S1x1024x1024 .bf16) (x3 : Vec F S1x1x1024 .f32) (x4 : Vec F S1x1x1024 .f32) (x5 : Vec F S1x1024x1024 .bf16) (x6 : Vec F S1x1x1024 .f32) (xt0 : TbBuf0 (F := F) c tbM0_0) (xt1 : TbBuf0 (F := F) c tbM0_1)
    (k0_h1 : ¬(k0_cond1 i (View.readAt (Elt F) tbM0_1.view (Rect.unit (s := S1) ![0] S1.size inb_S1_S1_0).toLoadRect xt1 (Shape.Idx.first (numel1_S1.symm ▸ Nat.one_pos))) = 1#1)) (k0_h2 : k0_cond2 i (View.readAt (Elt F) tbM0_1.view (Rect.unit (s := S1) ![0] S1.size inb_S1_S1_0).toLoadRect xt1 (Shape.Idx.first (numel1_S1.symm ▸ Nat.one_pos))) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (zeroBlock) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  intro E K
  iintro ⟨H0, H1, H2, H3, H4, H5, H6, H7, HT0, HT1, Hk⟩
  iapply ((runUnused c i arg3 harg3 arg4 harg4 arg5 harg5 arg6 harg6 arg7 harg7 arg8 harg8 arg9 harg9 arg10 harg10 x0 x1 x2 x3 x4 x5 x6 xt0 xt1 k0_h1 k0_h2).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  iintro ⟨H0, H1, H2, H3, H4, H5, H6, ⟨%f, H7⟩, HT0, HT1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (owns_block c arg10 _ _ (read_unused c i arg3 harg3 arg4 harg4 arg5 harg5 arg6 harg6 arg7 harg7 arg8 harg8 arg9 harg9 arg10 harg10 x0 x1 x2 x3 x4 x5 x6 xt0 xt1 k0_h1 k0_h2 f))
    iexact H7
  isplitl [HT0]; · iexact HT0
  iexact HT1

end Cert.Experts

end
-- ==== Proof.ExpertsFrame.lean ====
/-
  The experts' kernel over its whole grid: what each call of the body leaves (`outBlock`), the body at every point, the run, the frame
  claim, and the output array after the run.
-/
module

public import proofs.«01_k».proof.Proof.ExpertsBlock

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The number of blocks in use, as the body reads it off its table. -/
abbrev usedWord (c : Dev nD) : BitVec 32 :=
  View.readAt (Elt F) tbM0_1.view (Rect.unit (s := S1) ![0] S1.size inb_S1_S1_0).toLoadRect (tbl m 1 : TbBuf0 (F := F) c tbM0_1) (Shape.Idx.first (numel1_S1.symm ▸ Nat.one_pos))

/-- A point is in use or it is not: the body's second condition is the negation of its first. -/
theorem cond2_of_not (i : grid0.Coords) (v : BitVec 32) (h : ¬k0_cond1 i v = 1#1) : k0_cond2 i v = 1#1 := by
  unfold k0_cond1 at h
  unfold k0_cond2
  simp only [Scalar.cmpi, IntOp.cmpi, Scalar.extui] at h ⊢
  rw [BitVec.sle_eq_not_slt]
  revert h
  generalize (BitVec.ofNat 32 (i 0).val).slt v = b
  revert b
  decide

/-- A point in use is not past the last one in use. -/
theorem not_cond2_of (i : grid0.Coords) (v : BitVec 32) (h : k0_cond1 i v = 1#1) : ¬k0_cond2 i v = 1#1 := by
  unfold k0_cond1 at h
  unfold k0_cond2
  simp only [Scalar.cmpi, IntOp.cmpi, Scalar.extui] at h ⊢
  rw [BitVec.sle_eq_not_slt]
  revert h
  generalize (BitVec.ofNat 32 (i 0).val).slt v = b
  revert b
  decide

/-- What the body leaves in the output's buffer at point `t`: the expert's rows in a block in use, zeros in any other. -/
def outBlock (hO : Ok m) (c : Dev nD) (t : Fin (cfgM m hO).N) : S256x8x128.Idx → Elt F .f32 :=
  if k0_cond1 (grid0.coords t) (usedWord m c) = 1#1 then
    usedBlock (iblk m hO c 0 t) (iblk m hO c 1 t) (iblk m hO c 2 t) (iblk m hO c 3 t) (iblk m hO c 4 t) (iblk m hO c 5 t) (iblk m hO c 6 t)
  else zeroBlock

/-- The proof data on core `c`: the arrays as the region finds them; after the body at point `t` each input's buffer at its block
    and the output's at `outBlock`; the invariant is what the body leaves alone and the tables; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outBlock m hO c t
  Φ _ := iprop(Pipeline.ΦA spec0 c ∗ Pipeline.ΦT pre0 (tbl m) c)
  q _ := fullShare
  owed _ := 0

/-- The proof data's arrays are the contents the region finds. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outBlock m hO c t := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hc : k0_cond1 (grid0.coords t) (usedWord m c) = 1#1
  · rw [show outBlock m hO c t = usedBlock (iblk m hO c 0 t) (iblk m hO c 1 t) (iblk m hO c 2 t) (iblk m hO c 3 t) (iblk m hO c 4 t) (iblk m hO c 5 t) (iblk m hO c 6 t) from if_pos hc]
    iapply (used_run c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hc (not_cond2_of _ _ hc) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, H7, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

  · rw [show outBlock m hO c t = zeroBlock from if_neg hc]
    iapply (unused_run c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) hc (cond2_of_not _ _ hc) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    iintro ⟨H0, H1, H2, H3, H4, H5, H6, H7, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No point leaves the output's buffer unstored: one of the body's two conditions holds. -/
theorem idle_out (hO : Ok m) (t : Fin (cfgM m hO).N) : (cfgM m hO).idle 7 ((cfgM m hO).grid.coords t) = false := by
  show (!(k0_cond1 (grid0.coords t) ((tbl m).atD 1 ![0]) == 1#1) && !(k0_cond2 (grid0.coords t) ((tbl m).atD 1 ![0]) == 1#1)) = false
  by_cases hc : k0_cond1 (grid0.coords t) ((tbl m).atD 1 ![0]) = 1#1
  · rw [hc]; rfl
  · rw [cond2_of_not _ _ hc]; simp

/-- What the pipeline asks of the body, at every point. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  erw [idle_out m hO t]
  exact .rfl

/-! ## The run and the frame -/

set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- Every run of @main from zero counters ends with the pipeline's arrays at what the proof data says and every other buffer as the
    region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

set_option backward.isDefEq.respectTransparency.types false in
/-- The same, the arrays' contents stated as a relation. -/
theorem run_main_rel (hO : Ok m) : θ_run defs (onTc (τ := τ) (main (F := F))) (s₀ m ρ) (Pipeline.RDat.FramePost ((Pipeline.pin pcfgs fun _ => adm m hO) 0) (fun c => (dats m hO 0 c).toR) (V m)) :=
  Pipeline.RDat.θ_run_frameP pcfgs (fun _ => adm m hO) (0 : Fin 1) launch0 defs₀ Variants.none (fun c => (dats m hO 0 c).toR) m ρ main
    (hbody := fun c => (body_obligation m hO c).loose.toR) (hshare := fun c => (dats m hO 0 c).share_full fun _ => rfl)
    (howed := fun _ _ => rfl) (V := V m) (hmain := hmain m Variants.none) (hA := A_eq m hO) (hpf := V_pre m) (hΦ := fun _ _ => rfl)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toR) (A_eq m hO) (run_main_rel m ρ hO)

/-- THE FRAME, for tables whose blocks lie inside their arrays: every run ends, leaves the arguments as they were and every counter
    at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Experts

end
-- ==== Proof.ExpertsNet.lean ====
/-
  One expert's network on one row, over the extended reals: two products with their biases, the clipped gate times its logistic
  times the clipped second product plus one, and the product down with its bias.
-/
module

public import Idealize.ShloMosaic.Lib.Pointwise

@[expose] public section

noncomputable section

namespace Cert.Experts

open Idealize.ShloMosaic

/-- The word of a literal as an extended real. -/
abbrev lit (w : BitVec 32) : EReal := Ideal.ofBits FTy.f32 w

/-- The clipped gate. -/
def gate (x : Fin 1024 → EReal) (wg : Fin 1024 → Fin 1024 → EReal) (bg : Fin 1024 → EReal) (h : Fin 1024) : EReal :=
  min (∑ d : Fin 1024, x d * wg d h + bg h) (lit 0x40E00000#32)

/-- The clipped second product. -/
def linear (x : Fin 1024 → EReal) (wl : Fin 1024 → Fin 1024 → EReal) (bl : Fin 1024 → EReal) (h : Fin 1024) : EReal :=
  min (lit 0x40E00000#32) (max (lit 0xC0E00000#32) (∑ d : Fin 1024, x d * wl d h + bl h))

/-- What the gate and the second product make together. -/
def act (g l : EReal) : EReal :=
  g * Ideal.logistic (lit 0x3FD9DB23#32 * g) * (l + lit 0x3F800000#32)

/-- The expert's row. -/
def net (x : Fin 1024 → EReal) (wg wl : Fin 1024 → Fin 1024 → EReal) (bg bl : Fin 1024 → EReal)
    (wd : Fin 1024 → Fin 1024 → EReal) (bd : Fin 1024 → EReal) (o : Fin 1024) : EReal :=
  ∑ h : Fin 1024, act (gate x wg bg h) (linear x wl bl h) * wd h o + bd o

end Cert.Experts

end
-- ==== Proof.ExpertsValue.lean ====
/-
  The rows a block in use holds, read at one element at the extended reals: the expert's network on the block's row.
-/
module

public import proofs.«01_k».proof.Proof.ExpertsFrame
public import proofs.«01_k».proof.Proof.ExpertsNet
public import Idealize.ShloMosaic.Lib.Pointwise

@[expose] public section

set_option maxRecDepth 16384

noncomputable section

namespace Cert.Experts

open Cert.Kernel2Ideal Cert.Kernel2Ideal.Gen Idealize.ShloMosaic Idealize.ShloMosaic.TcCoe

variable (x0 : Vec Ideal S256x8x128 .f32) (x1 x2 x5 : Vec Ideal S1x1024x1024 .bf16) (x3 x4 x6 : Vec Ideal S1x1x1024 .f32)

/-- The eight groups side by side are the row. -/
theorem row_apply (r : Fin 256) (d : Fin 1024) :
    k0_pay5 (slab 0 x0) (slab 1 x0) (slab 2 x0) (slab 3 x0) (slab 4 x0) (slab 5 x0) (slab 6 x0) (slab 7 x0) (ix2 r d)
      = x0 (ix3 r ⟨d.val / 128, by omega⟩ ⟨d.val % 128, by omega⟩) := by
  have e : ∀ (a a' : Fin 8) (b b' : Fin 128), a.val = a'.val → b.val = b'.val → x0 (ValueIdx.ix3 r a b) = x0 (ix3 r a' b') :=
    fun a a' b b' h1 h2 => congrArg x0 (congrArg₂ (ix3 r) (Fin.ext h1) (Fin.ext h2))
  have hd := d.isLt
  pointwise [k0_pay5, slab]
  by_cases h0 : d.val < 128
  · rw [dif_pos h0]
    exact e 0 ⟨d.val / 128, by omega⟩ ⟨d.val, by omega⟩ ⟨d.val % 128, by omega⟩ (by show 0 = d.val / 128; omega) (by show d.val = d.val % 128; omega)
  rw [dif_neg h0]
  by_cases h1 : d.val - 128 < 128
  · rw [dif_pos h1]
    exact e 1 ⟨d.val / 128, by omega⟩ ⟨d.val - 128, by omega⟩ ⟨d.val % 128, by omega⟩ (by show 1 = d.val / 128; omega) (by show d.val - 128 = d.val % 128; omega)
  rw [dif_neg h1]
  by_cases h2 : d.val - 128 - 128 < 128
  · rw [dif_pos h2]
    exact e 2 ⟨d.val / 128, by omega⟩ ⟨d.val - 128 - 128, by omega⟩ ⟨d.val % 128, by omega⟩ (by show 2 = d.val / 128; omega) (by show d.val - 128 - 128 = d.val % 128; omega)
  rw [dif_neg h2]
  by_cases h3 : d.val - 128 - 128 - 128 < 128
  · rw [dif_pos h3]
    exact e 3 ⟨d.val / 128, by omega⟩ ⟨d.val - 128 - 128 - 128, by omega⟩ ⟨d.val % 128, by omega⟩ (by show 3 = d.val / 128; omega) (by show d.val - 128 - 128 - 128 = d.val % 128; omega)
  rw [dif_neg h3]
  by_cases h4 : d.val - 128 - 128 - 128 - 128 < 128
  · rw [dif_pos h4]
    exact e 4 ⟨d.val / 128, by omega⟩ ⟨d.val - 128 - 128 - 128 - 128, by omega⟩ ⟨d.val % 128, by omega⟩ (by show 4 = d.val / 128; omega) (by show d.val - 128 - 128 - 128 - 128 = d.val % 128; omega)
  rw [dif_neg h4]
  by_cases h5 : d.val - 128 - 128 - 128 - 128 - 128 < 128
  · rw [dif_pos h5]
    exact e 5 ⟨d.val / 128, by omega⟩ ⟨d.val - 128 - 128 - 128 - 128 - 128, by omega⟩ ⟨d.val % 128, by omega⟩ (by show 5 = d.val / 128; omega) (by show d.val - 128 - 128 - 128 - 128 - 128 = d.val % 128; omega)
  rw [dif_neg h5]
  by_cases h6 : d.val - 128 - 128 - 128 - 128 - 128 - 128 < 128
  · rw [dif_pos h6]
    exact e 6 ⟨d.val / 128, by omega⟩ ⟨d.val - 128 - 128 - 128 - 128 - 128 - 128, by omega⟩ ⟨d.val % 128, by omega⟩ (by show 6 = d.val / 128; omega) (by show d.val - 128 - 128 - 128 - 128 - 128 - 128 = d.val % 128; omega)
  rw [dif_neg h6]
  exact e 7 ⟨d.val / 128, by omega⟩ ⟨d.val - 128 - 128 - 128 - 128 - 128 - 128 - 128, by omega⟩ ⟨d.val % 128, by omega⟩ (by show 7 = d.val / 128; omega) (by show d.val - 128 - 128 - 128 - 128 - 128 - 128 - 128 = d.val % 128; omega)

/-- The gate before it is clipped. -/
theorem gate_apply (v9 v11 v13 v15 v17 v19 v21 v23) (r : Fin 256) (h : Fin 1024) :
    k0_pay6 (F := Ideal) v9 v11 v13 v15 v17 v19 v21 v23 x1 x3 (ix2 r h)
      = ∑ d : Fin 1024, k0_pay5 v9 v11 v13 v15 v17 v19 v21 v23 (ix2 r d) * x1 (ix3 0 d h) + x3 (ix3 0 0 h) := by
  pointwise [k0_pay6]

/-- The second product. -/
theorem linear_apply (v9 v11 v13 v15 v17 v19 v21 v23) (r : Fin 256) (h : Fin 1024) :
    k0_pay7 (F := Ideal) v9 v11 v13 v15 v17 v19 v21 v23 x2 (ix2 r h)
      = ∑ d : Fin 1024, k0_pay5 v9 v11 v13 v15 v17 v19 v21 v23 (ix2 r d) * x2 (ix3 0 d h) := by
  pointwise [k0_pay7]

/-- The second product's bias. -/
theorem bias_apply (h : Fin 1024) : k0_pay8 (F := Ideal) x4 (ix2 0 h) = x4 (ix3 0 0 h) := by
  pointwise [k0_pay8]

/-- The rest: clip, multiply, project down. -/
theorem down_apply (G L : FVec Ideal S256x1024 .f32) (B : FVec Ideal S1x1024 .f32) (r : Fin 256) (o : Fin 1024) :
    k0_pay9 G L B x5 x6 (ix2 r o)
      = ∑ h : Fin 1024, act (min (G (ix2 r h)) (lit 0x40E00000#32))
          (min (lit 0x40E00000#32) (max (lit 0xC0E00000#32) (L (ix2 r h) + B (ix2 0 h)))) * x5 (ix3 0 h o) + x6 (ix3 0 0 o) := by
  pointwise [k0_pay9, act]

/-- One element of the rows is the network's. -/
theorem rowsOut_apply (r : Fin 256) (o : Fin 1024) :
    rowsOut (F := Ideal) x0 x1 x2 x3 x4 x5 x6 (ix2 r o)
      = net (fun d => x0 (ix3 r ⟨d.val / 128, by omega⟩ ⟨d.val % 128, by omega⟩)) (fun d h => x1 (ix3 0 d h)) (fun d h => x2 (ix3 0 d h))
          (fun h => x3 (ix3 0 0 h)) (fun h => x4 (ix3 0 0 h)) (fun h o => x5 (ix3 0 h o)) (fun o => x6 (ix3 0 0 o)) o := by
  unfold rowsOut
  rw [down_apply]
  simp only [gate_apply, linear_apply, bias_apply, row_apply]
  rfl

/-- The same in the block's layout. -/
theorem usedBlock_apply (r : Fin 256) (s : Fin 8) (l : Fin 128) :
    usedBlock (F := Ideal) x0 x1 x2 x3 x4 x5 x6 (ix3 r s l)
      = net (fun d => x0 (ix3 r ⟨d.val / 128, by omega⟩ ⟨d.val % 128, by omega⟩)) (fun d h => x1 (ix3 0 d h)) (fun d h => x2 (ix3 0 d h))
          (fun h => x3 (ix3 0 0 h)) (fun h => x4 (ix3 0 0 h)) (fun h o => x5 (ix3 0 h o)) (fun o => x6 (ix3 0 0 o))
          ⟨128 * s.val + l.val, by omega⟩ :=
  rowsOut_apply x0 x1 x2 x5 x3 x4 x6 r ⟨128 * s.val + l.val, by omega⟩

/-- A block past the last one in use holds zeros. -/
theorem zeroBlock_apply (r : Fin 256) (s : Fin 8) (l : Fin 128) : zeroBlock (F := Ideal) (ix3 r s l) = 0 := by
  pointwise [zeroBlock, k0_pay4]

end Cert.Experts

end
-- ==== Proof.ExpertsOk.lean ====
/-
  The side condition of the tables' contents from their ranges: a block's expert is below 32 and the number of blocks in use
  lies between 1 and 608, so every block that an index map names lies inside its array.
-/
module

public import proofs.«01_k».proof.Proof.ExpertsKit
public import Idealize.ShloMosaic.Lib.Pointwise

@[expose] public section

noncomputable section

namespace Cert.Experts

open Cert.Kernel2Ideal Cert.Kernel2Ideal.Gen
open Idealize.ShloMosaic Idealize.ShloMosaic.TcCoe Idealize.ShloMosaic.Tactic

variable {F : FTy → Type} [FloatOps F]

/-- The expert of block `i`, as the index maps read it. -/
abbrev expertAt (pf : pre0.Contents (Elt F)) (i : grid0.Coords) : BitVec 32 :=
  pf.at 0 (Rect.unit (s := S608) ![(Scalar.indexCast (BitVec.ofNat 32 (i 0).val) : BitVec 32).toNat] S1.size (k0_off1_inb i)) numel1_S1

/-- The block of rows that point `i` reads: its own while it is in use, the last one in use after that. -/
abbrev rowsAt (pf : pre0.Contents (Elt F)) (i : grid0.Coords) : BitVec 32 :=
  Scalar.minsi (BitVec.ofNat 32 (i 0).val) (Scalar.subi (pf.at 1 (Rect.unit (s := S1) ![0] S1.size inb_S1_S1_0) numel1_S1) 1#32)

/-- The lesser of a block's number and the last block in use is a block of the array. -/
theorem minsi_lt (n : Nat) (hn : n < 608) (u : BitVec 32) (h1 : 1 ≤ u.toNat) (h2 : u.toNat ≤ 608) :
    (Scalar.minsi (BitVec.ofNat 32 n) (Scalar.subi u 1#32)).toNat = min n (u.toNat - 1) := by
  have e1 : (Scalar.subi u 1#32).toNat = u.toNat - 1 := by
    show (u - 1#32).toNat = _
    rw [BitVec.toNat_sub]
    simp only [BitVec.toNat_ofNat]
    omega
  have e2 : (BitVec.ofNat 32 n).toNat = n := by simp only [BitVec.toNat_ofNat]; omega
  generalize Scalar.subi u 1#32 = v at e1 ⊢
  generalize BitVec.ofNat 32 n = k at e2 ⊢
  have hk : k.toInt = k.toNat := by rw [BitVec.toInt_eq_toNat_cond, if_pos (by omega)]
  have hv : v.toInt = v.toNat := by rw [BitVec.toInt_eq_toNat_cond, if_pos (by omega)]
  show (if k.slt v then k else v).toNat = _
  by_cases h : k.slt v = true
  · rw [if_pos h, e2]
    rw [BitVec.slt_iff_toInt_lt, hk, hv] at h
    omega
  · rw [if_neg h, e1]
    rw [BitVec.slt_iff_toInt_lt, hk, hv] at h
    omega

/-- A block of one slice of a stack is whole words. -/
theorem slice_words (ix : Fin 3 → Nat) (h1 : ix 1 = 0) (h : ∀ a, (ix a + 1) * S1x1024x1024.size a ≤ S32x1024x1024.size a) :
    (Rect.block (s := S32x1024x1024) S1x1024x1024.size ix h).WholeWords (EltTy.packing .bf16) :=
  .inr ⟨by decide, rfl, by show ix 1 * 1024 = 0; rw [h1], rfl⟩

theorem ok_of (pf : pre0.Contents (Elt F)) (hb : ∀ i, (expertAt pf i).toNat < 32)
    (hn : ∀ i, (rowsAt pf i).toNat < 608) : ok0 pf := by
  have hw : ∀ i : grid0.Coords, ∀ a, (![(expertAt pf i).toNat, (0#32).toNat, (0#32).toNat] a + 1) * S1x1024x1024.size a ≤ S32x1024x1024.size a := by
    intro i a
    have := hb i
    match a with
    | ⟨0, _⟩ => show ((expertAt pf i).toNat + 1) * 1 ≤ 32; omega
    | ⟨1, _⟩ => show (0 + 1) * 1024 ≤ 1024; omega
    | ⟨2, _⟩ => show (0 + 1) * 1024 ≤ 1024; omega
  have hv : ∀ i : grid0.Coords, ∀ a, (![(expertAt pf i).toNat, (0#32).toNat, (0#32).toNat] a + 1) * S1x1x1024.size a ≤ S32x1x1024.size a := by
    intro i a
    have := hb i
    match a with
    | ⟨0, _⟩ => show ((expertAt pf i).toNat + 1) * 1 ≤ 32; omega
    | ⟨1, _⟩ => show (0 + 1) * 1 ≤ 1; omega
    | ⟨2, _⟩ => show (0 + 1) * 1024 ≤ 1024; omega
  refine ⟨fun i => ⟨?_, .inl rfl⟩, fun i => ⟨hw i, .inr (slice_words _ rfl (hw i))⟩, fun i => ⟨hw i, .inr (slice_words _ rfl (hw i))⟩,
    fun i => ⟨hv i, .inl rfl⟩, fun i => ⟨hv i, .inl rfl⟩, fun i => ⟨hw i, .inr (slice_words _ rfl (hw i))⟩, fun i => ⟨hv i, .inl rfl⟩⟩
  intro a
  have := hn i
  match a with
  | ⟨0, _⟩ => show ((rowsAt pf i).toNat + 1) * 256 ≤ 155648; omega
  | ⟨1, _⟩ => show (0 + 1) * 8 ≤ 8; omega
  | ⟨2, _⟩ => show (0 + 1) * 128 ≤ 128; omega

variable (m : (ℓ : Loc nD τ sig) → Buf (Elt F) ℓ)

/-- The table of experts, -/
abbrev argE : IVec S608 32 := m (((0 : Dev nD).tc : Thread nD τ).loc main_arg0)
/-- and the number of blocks in use. -/
abbrev argU : IVec S1 32 := m (((0 : Dev nD).tc : Thread nD τ).loc main_arg1)

theorem coord_lt (i : grid0.Coords) : (i 0).val < 608 := (i 0).isLt

/-- Block `i`'s expert is the table's entry. -/
theorem expertAt_tbl (i : grid0.Coords) : expertAt (tbl m) i = argE m (ix1 ⟨(i 0).val, coord_lt i⟩) := by
  refine congrArg (argE m) (funext fun a => Fin.ext ?_)
  have h := coord_lt i
  match a with
  | ⟨0, _⟩ =>
    show (BitVec.ofNat 32 (i 0).val).toNat + 1 * 0 = (i 0).val
    rw [BitVec.toNat_ofNat]
    omega

/-- The block of rows read at a point. -/
theorem rowsAt_tbl (i : grid0.Coords) : rowsAt (tbl m) i = Scalar.minsi (BitVec.ofNat 32 (i 0).val) (Scalar.subi (argU m (ix1 0)) 1#32) := by
  refine congrArg (fun v => Scalar.minsi (BitVec.ofNat 32 (i 0).val) (Scalar.subi v 1#32)) (congrArg (argU m) (funext fun a => Fin.ext ?_))
  match a with
  | ⟨0, _⟩ => rfl

/-- The side condition from the tables' ranges. -/
theorem ok_tbl (hb : ∀ x, (argE m x).toNat < 32) (hu : ∀ x, 1 ≤ (argU m x).toNat ∧ (argU m x).toNat ≤ 608) : Ok m := by
  refine ok_of _ (fun i => ?_) (fun i => ?_)
  · rw [expertAt_tbl]; exact hb _
  · rw [rowsAt_tbl, minsi_lt _ (coord_lt i) _ (hu _).1 (hu _).2]
    have := coord_lt i
    omega

end Cert.Experts

end
-- ==== Proof.ExpertsWindows.lean ====
/-
  Where a grid point's blocks lie in the arrays of the experts' program: point `t` reads its block of rows and its expert's slices of the
  weights, and writes block `t` of the result.
-/
module

public import proofs.«01_k».proof.Proof.ExpertsFrame
public import proofs.«01_k».proof.Proof.ExpertsOk

@[expose] public section

set_option maxRecDepth 16384

noncomputable section

namespace Cert.Experts

open Cert.Kernel2Ideal Cert.Kernel2Ideal.Gen Idealize.ShloMosaic Idealize.ShloMosaic.TcCoe

variable {F : FTy → Type} [FloatOps F]
variable (m : (ℓ : Loc nD τ sig) → Buf (Elt F) ℓ) (hO : Ok m) (c : Dev nD)

/-- A point's one coordinate is its number. -/
theorem coord_val : ∀ t : Fin grid0.N, (grid0.coords t 0).val = t.val := by decide +kernel

theorem pt_lt (t : Fin (cfgM m hO).N) : t.val < 608 := lt_of_lt_of_eq t.isLt (show grid0.N = 608 by decide)

/-- The rows a point reads. -/
theorem iblk0_apply (t : Fin (cfgM m hO).N) (n : Fin 608) (hn : (rowsAt (tbl m) (grid0.coords t)).toNat = n.val)
    (r : Fin 256) (s : Fin 8) (l : Fin 128) :
    (iblk m hO c 0 t : Vec F S256x8x128 .f32) (ix3 r s l)
      = m ((c.tc : Thread nD τ).loc main_arg2) (ix3 ⟨n.val * 256 + r.val, by omega⟩ s l : S155648x8x128.Idx) := by
  show m ((c.tc : Thread nD τ).loc main_arg2) ((((cfgM m hO).win 0).rect t).emb (ix3 r s l)) = _
  refine congrArg _ (funext fun d => Fin.ext ?_)
  fin_cases d
  · change (rowsAt (tbl m) (grid0.coords t)).toNat * 256 + 1 * r.val = _
    rw [hn, one_mul]; rfl
  · change 0 * 8 + 1 * s.val = _
    rw [one_mul, zero_mul, zero_add]; rfl
  · change 0 * 128 + 1 * l.val = _
    rw [one_mul, zero_mul, zero_add]; rfl

/-- The expert's weights of the gate, -/
theorem iblk1_apply (t : Fin (cfgM m hO).N) (e : Fin 32) (he : (expertAt (tbl m) (grid0.coords t)).toNat = e.val)
    (a b : Fin 1024) :
    (iblk m hO c 1 t : Vec F S1x1024x1024 .bf16) (ix3 0 a b)
      = m ((c.tc : Thread nD τ).loc main_arg3) (ix3 e a b : S32x1024x1024.Idx) := by
  show m ((c.tc : Thread nD τ).loc main_arg3) ((((cfgM m hO).win 1).rect t).emb (ix3 0 a b)) = _
  refine congrArg _ (funext fun d => Fin.ext ?_)
  fin_cases d
  · change (expertAt (tbl m) (grid0.coords t)).toNat * 1 + 1 * 0 = _
    rw [he, mul_one]; rfl
  · change 0 * 1024 + 1 * a.val = _
    rw [one_mul, zero_mul, zero_add]; rfl
  · change 0 * 1024 + 1 * b.val = _
    rw [one_mul, zero_mul, zero_add]; rfl

/-- of the second product, -/
theorem iblk2_apply (t : Fin (cfgM m hO).N) (e : Fin 32) (he : (expertAt (tbl m) (grid0.coords t)).toNat = e.val)
    (a b : Fin 1024) :
    (iblk m hO c 2 t : Vec F S1x1024x1024 .bf16) (ix3 0 a b)
      = m ((c.tc : Thread nD τ).loc main_arg4) (ix3 e a b : S32x1024x1024.Idx) := by
  show m ((c.tc : Thread nD τ).loc main_arg4) ((((cfgM m hO).win 2).rect t).emb (ix3 0 a b)) = _
  refine congrArg _ (funext fun d => Fin.ext ?_)
  fin_cases d
  · change (expertAt (tbl m) (grid0.coords t)).toNat * 1 + 1 * 0 = _
    rw [he, mul_one]; rfl
  · change 0 * 1024 + 1 * a.val = _
    rw [one_mul, zero_mul, zero_add]; rfl
  · change 0 * 1024 + 1 * b.val = _
    rw [one_mul, zero_mul, zero_add]; rfl

/-- and of the projection down. -/
theorem iblk5_apply (t : Fin (cfgM m hO).N) (e : Fin 32) (he : (expertAt (tbl m) (grid0.coords t)).toNat = e.val)
    (a b : Fin 1024) :
    (iblk m hO c 5 t : Vec F S1x1024x1024 .bf16) (ix3 0 a b)
      = m ((c.tc : Thread nD τ).loc main_arg7) (ix3 e a b : S32x1024x1024.Idx) := by
  show m ((c.tc : Thread nD τ).loc main_arg7) ((((cfgM m hO).win 5).rect t).emb (ix3 0 a b)) = _
  refine congrArg _ (funext fun d => Fin.ext ?_)
  fin_cases d
  · change (expertAt (tbl m) (grid0.coords t)).toNat * 1 + 1 * 0 = _
    rw [he, mul_one]; rfl
  · change 0 * 1024 + 1 * a.val = _
    rw [one_mul, zero_mul, zero_add]; rfl
  · change 0 * 1024 + 1 * b.val = _
    rw [one_mul, zero_mul, zero_add]; rfl

/-- The expert's bias of the gate, -/
theorem iblk3_apply (t : Fin (cfgM m hO).N) (e : Fin 32) (he : (expertAt (tbl m) (grid0.coords t)).toNat = e.val)
    (b : Fin 1024) :
    (iblk m hO c 3 t : Vec F S1x1x1024 .f32) (ix3 0 0 b)
      = m ((c.tc : Thread nD τ).loc main_arg5) (ix3 e 0 b : S32x1x1024.Idx) := by
  show m ((c.tc : Thread nD τ).loc main_arg5) ((((cfgM m hO).win 3).rect t).emb (ix3 0 0 b)) = _
  refine congrArg _ (funext fun d => Fin.ext ?_)
  fin_cases d
  · change (expertAt (tbl m) (grid0.coords t)).toNat * 1 + 1 * 0 = _
    rw [he, mul_one]; rfl
  · change 0 * 1 + 1 * 0 = _
    rfl
  · change 0 * 1024 + 1 * b.val = _
    rw [one_mul, zero_mul, zero_add]; rfl

/-- of the second product, -/
theorem iblk4_apply (t : Fin (cfgM m hO).N) (e : Fin 32) (he : (expertAt (tbl m) (grid0.coords t)).toNat = e.val)
    (b : Fin 1024) :
    (iblk m hO c 4 t : Vec F S1x1x1024 .f32) (ix3 0 0 b)
      = m ((c.tc : Thread nD τ).loc main_arg6) (ix3 e 0 b : S32x1x1024.Idx) := by
  show m ((c.tc : Thread nD τ).loc main_arg6) ((((cfgM m hO).win 4).rect t).emb (ix3 0 0 b)) = _
  refine congrArg _ (funext fun d => Fin.ext ?_)
  fin_cases d
  · change (expertAt (tbl m) (grid0.coords t)).toNat * 1 + 1 * 0 = _
    rw [he, mul_one]; rfl
  · change 0 * 1 + 1 * 0 = _
    rfl
  · change 0 * 1024 + 1 * b.val = _
    rw [one_mul, zero_mul, zero_add]; rfl

/-- and of the projection down. -/
theorem iblk6_apply (t : Fin (cfgM m hO).N) (e : Fin 32) (he : (expertAt (tbl m) (grid0.coords t)).toNat = e.val)
    (b : Fin 1024) :
    (iblk m hO c 6 t : Vec F S1x1x1024 .f32) (ix3 0 0 b)
      = m ((c.tc : Thread nD τ).loc main_arg8) (ix3 e 0 b : S32x1x1024.Idx) := by
  show m ((c.tc : Thread nD τ).loc main_arg8) ((((cfgM m hO).win 6).rect t).emb (ix3 0 0 b)) = _
  refine congrArg _ (funext fun d => Fin.ext ?_)
  fin_cases d
  · change (expertAt (tbl m) (grid0.coords t)).toNat * 1 + 1 * 0 = _
    rw [he, mul_one]; rfl
  · change 0 * 1 + 1 * 0 = _
    rfl
  · change 0 * 1024 + 1 * b.val = _
    rw [one_mul, zero_mul, zero_add]; rfl

/-- A point writes its own block. -/
theorem index7 (t : Fin (cfgM m hO).N) : (BitVec.ofNat 32 (grid0.coords t 0).val).toNat = t.val := by
  have := pt_lt m hO t
  rw [coord_val t, BitVec.toNat_ofNat]
  omega

/-- What the point's block of any array of the result's shape reads. -/
theorem blk7_apply (t : Fin (cfgM m hO).N) (G : Buf (Elt F) ((c.tc : Thread nD τ).loc main_v0)) (r : Fin 256) (s : Fin 8) (l : Fin 128) :
    ((((cfgM m hO).win 7).blk t).view.read (Elt F) G : Vec F S256x8x128 .f32) (ix3 r s l)
      = G (ix3 ⟨t.val * 256 + r.val, by have := pt_lt m hO t; omega⟩ s l : S155648x8x128.Idx) := by
  show G ((((cfgM m hO).win 7).rect t).emb (ix3 r s l)) = _
  refine congrArg _ (funext fun d => Fin.ext ?_)
  fin_cases d
  · change (BitVec.ofNat 32 (grid0.coords t 0).val).toNat * 256 + 1 * r.val = _
    rw [index7, one_mul]; rfl
  · change 0 * 8 + 1 * s.val = _
    rw [one_mul, zero_mul, zero_add]; rfl
  · change 0 * 128 + 1 * l.val = _
    rw [one_mul, zero_mul, zero_add]; rfl

/-- The blocks cover the result. -/
theorem cover7 (i : S155648x8x128.Idx) :
    ∃ t : Fin (cfgM m hO).N, ((cfgM m hO).win 7).flush t = true ∧ i ∈ (((cfgM m hO).win 7).blk t).view.set := by
  have h0 : (i 0).val < 155648 := (i 0).isLt
  have h1 : (i 1).val < 8 := (i 1).isLt
  have h2 : (i 2).val < 128 := (i 2).isLt
  have hN : (cfgM m hO).N = 608 := (show grid0.N = 608 by decide)
  let t : Fin (cfgM m hO).N := ⟨(i 0).val / 256, by rw [hN]; omega⟩
  refine ⟨t, flush0_7 (adm m hO) t, ?_⟩
  show i ∈ ((View.whole main_v0).slice (((cfgM m hO).win 7).rect t)).set
  erw [View.set_slice_whole, Rect.mem_set_unit]
  have ht : (BitVec.ofNat 32 (grid0.coords t 0).val).toNat = (i 0).val / 256 := index7 m hO t
  intro a
  fin_cases a
  · change (BitVec.ofNat 32 (grid0.coords t 0).val).toNat * 256 ≤ (i 0).val
      ∧ (i 0).val < (BitVec.ofNat 32 (grid0.coords t 0).val).toNat * 256 + 256
    rw [ht]; omega
  · change 0 * 8 ≤ (i 1).val ∧ (i 1).val < 0 * 8 + 8
    omega
  · change 0 * 128 ≤ (i 2).val ∧ (i 2).val < 0 * 128 + 128
    omega

end Cert.Experts

end
-- ==== Proof.ExpertsRef.lean ====
/-
  What the experts' reference computes, read at one element of its result: a block in use holds its expert's network on its rows,
  any other block holds zeros.
-/
module

public import proofs.«01_k».proof.Proof.Gen.Reference2Ideal.Run
public import proofs.«01_k».proof.Proof.ExpertsNet
public import Idealize.ShloMosaic.Lib.Pointwise
public import Idealize.ShloMosaic.Lib.WordArith

@[expose] public section

set_option maxRecDepth 16384

noncomputable section

namespace Cert.Experts.Ref

open Cert.Reference2Ideal Cert.Reference2Ideal.Gen Idealize.ShloMosaic Idealize.ShloMosaic.StableHlo

/-- The dimension numbers of taking whole slices of a stack along its first axis. -/
abbrev sliceDims (nb n A B : Nat)
    (wf : GatherDims.WF ⟨3, ![nb, A, B]⟩ ⟨2, ![n, 1]⟩ ⟨3, ![n, A, B]⟩ [1, 2] [0] [] [0] [] 1 ![1, A, B]) :
    GatherDims ⟨3, ![nb, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Slice `e` taken at place `i`, where the indices hold the number `e` of a slice. -/
theorem gather_slice {α : Type} {nb n A B : Nat} (wf) (x : (⟨3, ![nb, A, B]⟩ : Shape).Idx → α) (idx : IVec ⟨2, ![n, 1]⟩ 32)
    (i : Fin n) (a : Fin A) (b : Fin B) (e : Fin nb) (he : idx (ix2 i (0 : Fin 1)) = BitVec.ofNat 32 e.val) (hnb : nb < 2 ^ 31) :
    Host.gather (sliceDims nb n A B wf) x idx (ix3 i a b) = x (ix3 e a b) := by
  unfold Host.gather
  refine congrArg x (funext fun k => Fin.ext ?_)
  match k with
  | ⟨0, _⟩ =>
    show (sliceDims nb n A B wf).start (ix3 i a b) idx 0 + (sliceDims nb n A B wf).batchCoord (ix3 i a b) 0
      + (sliceDims nb n A B wf).offCoord (ix3 i a b) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (sliceDims nb n A B wf).startIndexMap from List.mem_singleton.mpr rfl)]
    have hsi : (sliceDims nb n A B wf).siIdx (ix3 i a b) ⟨List.idxOf (0 : Fin 3) (sliceDims nb n A B wf).startIndexMap,
        List.idxOf_lt_length_iff.2 (List.mem_singleton.mpr rfl)⟩ = ix2 i (0 : Fin 1) := by
      funext c; refine Fin.ext ?_
      match c with
      | ⟨0, _⟩ => rfl
      | ⟨1, _⟩ => rfl
    rw [hsi, he, WordArith.toInt_ofNat_small _ (by have := e.isLt; omega)]
    have := e.isLt
    show min ((e.val : Int)).toNat (nb - 1) = e.val
    omega
  | ⟨1, _⟩ =>
    show (sliceDims nb n A B wf).start (ix3 i a b) idx 1 + (sliceDims nb n A B wf).batchCoord (ix3 i a b) 1
      + (sliceDims nb n A B wf).offCoord (ix3 i a b) 1 = a.val
    rw [GatherDims.batchCoord_eq_zero _ _ _ List.not_mem_nil]
    unfold GatherDims.start
    rw [dif_neg (show (1 : Fin 3) ∉ (sliceDims nb n A B wf).startIndexMap from by simp)]
    simp only [Nat.add_zero, Nat.zero_add]
    rfl
  | ⟨2, _⟩ =>
    show (sliceDims nb n A B wf).start (ix3 i a b) idx 2 + (sliceDims nb n A B wf).batchCoord (ix3 i a b) 2
      + (sliceDims nb n A B wf).offCoord (ix3 i a b) 2 = b.val
    rw [GatherDims.batchCoord_eq_zero _ _ _ List.not_mem_nil]
    unfold GatherDims.start
    rw [dif_neg (show (2 : Fin 3) ∉ (sliceDims nb n A B wf).startIndexMap from by simp)]
    simp only [Nat.add_zero, Nat.zero_add]
    rfl

variable (A0 : IVec S608 32) (A1 : IVec S1 32) (A2 : FVec Ideal S155648x8x128 .f32)
  (A3 A4 A7 : FVec Ideal S32x1024x1024 .bf16) (A5 A6 A8 : FVec Ideal S32x1x1024 .f32)

/-- The rows by block, row and column. -/
def rows : FVec Ideal S608x256x1024 .f32 := shapeCast _ A2 shapeCasts_S155648x8x128_S608x256x1024

/-- Each block's slice of a stack of weights, -/
def weights (W : FVec Ideal S32x1024x1024 .bf16) : FVec Ideal S608x1024x1024 .f32 :=
  Host.gather gather_S32x1024x1024_S608x1_S608x1024x1024_12_0_n_n_0_1_110241024 (extf .f32 W bitsLt_bf16_f32)
    (broadcastInDim S608x1 ![0] bcast_S608_S608x1_0 A0)

/-- and of a stack of biases, the same in every row. -/
def bias (W : FVec Ideal S32x1x1024 .f32) : FVec Ideal S608x256x1024 .f32 :=
  broadcastInDim S608x256x1024 ![0, 1, 2] bcast_S608x1x1024_S608x256x1024_0_1_2
    (Host.gather gather_S32x1x1024_S608x1_S608x1x1024_12_0_n_n_0_1_111024 W (broadcastInDim S608x1 ![0] bcast_S608_S608x1_0 A0))

/-- A product of the blocks with their weights, and the bias. -/
def affine (X : FVec Ideal S608x256x1024 .f32) (W : FVec Ideal S32x1024x1024 .bf16) (B : FVec Ideal S32x1x1024 .f32) :
    FVec Ideal S608x256x1024 .f32 :=
  addf (Host.dotGeneral dot_S608x256x1024_S608x1024x1024_S608x256x1024_2_1_1_2_0_0 none X (weights A0 W)) (bias A0 B)

/-- A word everywhere. -/
def const (w : BitVec 32) : FVec Ideal S608x256x1024 .f32 :=
  broadcastInDim S608x256x1024 ![] bcast_S_S608x256x1024 (constant S_ .f32 w)

/-- The clipped gate. -/
def gates : FVec Ideal S608x256x1024 .f32 := minimumf (affine A0 (rows A2) A3 A5) (const 0x40E00000#32)

/-- The clipped second product. -/
def linears : FVec Ideal S608x256x1024 .f32 :=
  minimumf (const 0x40E00000#32) (maximumf (const 0xC0E00000#32) (affine A0 (rows A2) A4 A6))

/-- What they make together. -/
def acts (G L : FVec Ideal S608x256x1024 .f32) : FVec Ideal S608x256x1024 .f32 :=
  mulf (mulf G (Host.divf (const 0x3F800000#32) (addf (const 0x3F800000#32) (Host.exp (Host.negf (mulf (const 0x3FD9DB23#32) G))))))
    (addf L (const 0x3F800000#32))

/-- Which blocks are in use. -/
def inUse : IVec S608x256x1024 1 :=
  broadcastInDim S608x256x1024 ![0, 1, 2] bcast_S608x1x1_S608x256x1024_0_1_2
    (cmpi .slt (broadcastInDim S608x1x1 ![0] bcast_S608_S608x1x1_0 (iotaInDim S608 32 0))
      (broadcastInDim S608x1x1 ![] bcast_S_S608x1x1 (shapeCast _ A1 shapeCasts_S1_S_)))

/-- The result. -/
def out : FVec Ideal S155648x8x128 .f32 :=
  shapeCast _ (select (inUse A1) (affine A0 (acts (gates A0 A2 A3 A5) (linears A0 A2 A4 A6)) A7 A8) (const 0x00000000#32))
    shapeCasts_S608x256x1024_S155648x8x128

/-- It is what the program computes. -/
theorem res_eq (m : (ℓ : Loc nD τ sig) → Buf (Elt Ideal) ℓ) (c : Dev nD) :
    Cert.Reference2Ideal.Value.res_main_v40 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg7))
          (m ((c.tc : Thread nD τ).loc main_arg5)) (m ((c.tc : Thread nD τ).loc main_arg6)) (m ((c.tc : Thread nD τ).loc main_arg8)) := rfl

variable (i : Fin 608) (e : Fin 32) (he : A0 (ix1 i) = BitVec.ofNat 32 e.val)

/-- The rows at one element. -/
theorem rows_apply (r : Fin 256) (d : Fin 1024) :
    rows A2 (ix3 i r d) = A2 (ix3 ⟨i.val * 256 + r.val, by omega⟩ ⟨d.val / 128, by omega⟩ ⟨d.val % 128, by omega⟩) := by
  pointwise [rows]

include he in
/-- A block's weights are its expert's, -/
theorem weights_apply (W : FVec Ideal S32x1024x1024 .bf16) (a b : Fin 1024) : weights A0 W (ix3 i a b) = W (ix3 e a b) :=
  gather_slice (nb := 32) (n := 608) (A := 1024) (B := 1024) _ _ _ i a b e (by pointwise []; exact he) (by omega)

include he in
/-- and so are its biases. -/
theorem bias_apply (W : FVec Ideal S32x1x1024 .f32) (r : Fin 256) (b : Fin 1024) : bias A0 W (ix3 i r b) = W (ix3 e 0 b) := by
  refine Eq.trans (b := Host.gather gather_S32x1x1024_S608x1_S608x1x1024_12_0_n_n_0_1_111024 W (broadcastInDim S608x1 ![0] bcast_S608_S608x1_0 A0)
    (ix3 i 0 b)) (by pointwise [bias]) ?_
  exact gather_slice (nb := 32) (n := 608) (A := 1) (B := 1024) _ _ _ i 0 b e (by pointwise []; exact he) (by omega)

include he in
/-- A product and its bias at one element. -/
theorem affine_apply (X : FVec Ideal S608x256x1024 .f32) (W : FVec Ideal S32x1024x1024 .bf16) (B : FVec Ideal S32x1x1024 .f32)
    (r : Fin 256) (h : Fin 1024) :
    affine A0 X W B (ix3 i r h) = ∑ d : Fin 1024, X (ix3 i r d) * W (ix3 e d h) + B (ix3 e 0 h) := by
  refine Eq.trans (b := ∑ d : Fin 1024, X (ix3 i r d) * weights A0 W (ix3 i d h) + bias A0 B (ix3 i r h)) (by pointwise [affine]) ?_
  rw [bias_apply A0 i e he]
  simp only [weights_apply A0 i e he]

/-- A word everywhere, at one element. -/
theorem const_apply (w : BitVec 32) (r : Fin 256) (h : Fin 1024) : const w (ix3 i r h) = lit w := by
  pointwise [const]

/-- The word of one. -/
theorem one_word : lit 0x3F800000#32 = 1 := by
  simp [lit, Ideal.ofBits, Ideal.ieee]
  rw [← EReal.coe_mul]
  norm_num

/-- One over one plus the exponential of the negated word is the logistic. -/
theorem acts_apply (G L : FVec Ideal S608x256x1024 .f32) (r : Fin 256) (h : Fin 1024) :
    acts G L (ix3 i r h) = act (G (ix3 i r h)) (L (ix3 i r h)) := by
  have e1 : acts G L (ix3 i r h) = G (ix3 i r h) * Ideal.div (lit 0x3F800000#32) (lit 0x3F800000#32
      + Ideal.exp (-(lit 0x3FD9DB23#32 * G (ix3 i r h)))) * (L (ix3 i r h) + lit 0x3F800000#32) := by
    pointwise [acts, const]
  rw [e1, act, Ideal.logistic, one_word]

include he in
/-- A block in use, at one element. -/
theorem net_apply (r : Fin 256) (o : Fin 1024) :
    affine A0 (acts (gates A0 A2 A3 A5) (linears A0 A2 A4 A6)) A7 A8 (ix3 i r o)
      = net (fun d => A2 (ix3 ⟨i.val * 256 + r.val, by omega⟩ ⟨d.val / 128, by omega⟩ ⟨d.val % 128, by omega⟩))
          (fun d h => A3 (ix3 e d h)) (fun d h => A4 (ix3 e d h)) (fun h => A5 (ix3 e 0 h)) (fun h => A6 (ix3 e 0 h))
          (fun h o => A7 (ix3 e h o)) (fun o => A8 (ix3 e 0 o)) o := by
  have hg : ∀ h, gates A0 A2 A3 A5 (ix3 i r h) = min (affine A0 (rows A2) A3 A5 (ix3 i r h)) (const 0x40E00000#32 (ix3 i r h)) := fun h => rfl
  have hl : ∀ h, linears A0 A2 A4 A6 (ix3 i r h)
      = min (const 0x40E00000#32 (ix3 i r h)) (max (const 0xC0E00000#32 (ix3 i r h)) (affine A0 (rows A2) A4 A6 (ix3 i r h))) := fun h => rfl
  rw [affine_apply A0 i e he]
  unfold net gate linear
  simp only [acts_apply, hg, hl, const_apply, affine_apply A0 i e he, rows_apply]

/-- A block is in use when its number is below the number of blocks in use. -/
theorem inUse_apply (r : Fin 256) (o : Fin 1024) :
    inUse A1 (ix3 i r o) = IntOp.cmpi .slt (BitVec.ofNat 32 i.val) (A1 (ix1 0)) := by
  pointwise [inUse]

/-- The result at one element. -/
theorem out_apply (r : Fin 256) (s : Fin 8) (l : Fin 128) :
    out A0 A1 A2 A3 A4 A7 A5 A6 A8 (ix3 ⟨i.val * 256 + r.val, by omega⟩ s l)
      = if IntOp.cmpi .slt (BitVec.ofNat 32 i.val) (A1 (ix1 0)) = 1#1 then
          affine A0 (acts (gates A0 A2 A3 A5) (linears A0 A2 A4 A6)) A7 A8 (ix3 i r ⟨s.val * 128 + l.val, by omega⟩) else 0 := by
  rw [← inUse_apply A1 i r ⟨s.val * 128 + l.val, by omega⟩]
  pointwise [out, const]
  rfl

end Cert.Experts.Ref

end
-- ==== Proof.ExpertsResult.lean ====
/-
  The experts' whole result: block by block, what the kernel leaves is the reference of its arguments, when the table names experts and
  between 1 and 608 blocks are in use.
-/
module

public import proofs.«01_k».proof.Proof.ExpertsValue
public import proofs.«01_k».proof.Proof.ExpertsWindows
public import proofs.«01_k».proof.Proof.ExpertsRef

@[expose] public section

set_option maxRecDepth 16384

noncomputable section

namespace Cert.Experts

open Cert.Kernel2Ideal Cert.Kernel2Ideal.Gen Idealize.ShloMosaic Idealize.ShloMosaic.TcCoe
open Idealize.ShloMosaic.Pipeline (Dat)
open Idealize.SL.Sem

variable {F : FTy → Type} [FloatOps F]

/-- The body's first condition: the block is below the number in use. -/
theorem cond1_iff (i : grid0.Coords) (v : BitVec 32) : k0_cond1 i v = 1#1 ↔ IntOp.cmpi .slt (BitVec.ofNat 32 (i 0).val) v = 1#1 := by
  unfold k0_cond1
  simp only [Scalar.cmpi, IntOp.cmpi, Scalar.extui]
  generalize (BitVec.ofNat 32 (i 0).val).slt v = b
  revert b
  decide

/-- A block in use has a number below the number in use. -/
theorem lt_of_slt (n : Nat) (hn : n < 608) (u : BitVec 32) (hu : u.toNat ≤ 608) (h : IntOp.cmpi .slt (BitVec.ofNat 32 n) u = 1#1) :
    n < u.toNat := by
  have e2 : (BitVec.ofNat 32 n).toNat = n := by simp only [BitVec.toNat_ofNat]; omega
  generalize BitVec.ofNat 32 n = k at e2 h
  have h' : k.slt u = true := by
    revert h
    simp only [IntOp.cmpi]
    generalize k.slt u = b
    revert b
    decide
  have hk : k.toInt = k.toNat := by rw [BitVec.toInt_eq_toNat_cond, if_pos (by omega)]
  have hv : u.toInt = u.toNat := by rw [BitVec.toInt_eq_toNat_cond, if_pos (by omega)]
  rw [BitVec.slt_iff_toInt_lt, hk, hv] at h'
  omega

/-- The number in use, as the body reads it, is the table's entry. -/
theorem usedWord_eq (m : (ℓ : Loc nD τ sig) → Buf (Elt F) ℓ) (c : Dev nD) : usedWord m c = argU m (ix1 0) := by
  refine congrArg (argU m) (funext fun a => Fin.ext ?_)
  match a with
  | ⟨0, _⟩ => rfl

/-- What a run leaves: the result's array block by block, the arguments as they were. -/
theorem run_blocks (m : (ℓ : Loc nD τ sig) → Buf (Elt F) ℓ) (ρ : Dev nD → PrngReg) (hO : Ok m) :
    θ_run defs (onTc (τ := τ) (main (F := F))) ⟨m, fun _ => 0, ρ⟩ (fun r => ∀ c : Dev nD,
      r.2.mem ((c.tc : Thread nD τ).loc main_v0) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h7 : θ_run defs (onTc (τ := τ) (main (F := F))) ⟨m, fun _ => 0, ρ⟩ (fun r => ∀ c : Dev nD,
      r.2.mem ((c.tc : Thread nD τ).loc main_v0) = (dats m hO 0 c).arrAt 7 (cfgM m hO).N) :=
    (θ_run defs _ _).mono (fun _ h c => (h c).1 7) (run_main m ρ hO)
  exact (θ_run defs _ _).mono (fun _ h c => ⟨h.2 c, h.1 c⟩) (θ_run_and (unchanged m ρ hO) h7)

variable (m : (ℓ : Loc nD τ sig) → Buf (Elt Ideal) ℓ) (hO : Ok m) (c : Dev nD)

/-- The reference of a run's arguments. -/
abbrev want : FVec Ideal S155648x8x128 .f32 :=
  Ref.out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg7))
    (m ((c.tc : Thread nD τ).loc main_arg5)) (m ((c.tc : Thread nD τ).loc main_arg6)) (m ((c.tc : Thread nD τ).loc main_arg8))

/-- A point's block is the reference's. -/
theorem out_block (hb : ∀ x, (argE m x).toNat < 32) (hu : ∀ x, 1 ≤ (argU m x).toNat ∧ (argU m x).toNat ≤ 608)
    (t : Fin (cfgM m hO).N) (r : Fin 256) (s : Fin 8) (l : Fin 128) :
    outBlock m hO c t (ix3 r s l) = want m c (ix3 ⟨t.val * 256 + r.val, by have := pt_lt m hO t; omega⟩ s l) := by
  obtain rfl : c = 0 := Subsingleton.elim _ _
  have ht := pt_lt m hO t
  let i : Fin 608 := ⟨t.val, ht⟩
  have hc : (grid0.coords t 0).val = t.val := coord_val t
  let e : Fin 32 := ⟨(argE m (ix1 i)).toNat, hb _⟩
  have hx : expertAt (tbl m) (grid0.coords t) = argE m (ix1 i) :=
    (expertAt_tbl m _).trans (congrArg (fun j => argE m (ix1 j)) (Fin.ext hc))
  have he : (expertAt (tbl m) (grid0.coords t)).toNat = e.val := congrArg BitVec.toNat hx
  have hE : argE m (ix1 i) = BitVec.ofNat 32 e.val := (BitVec.ofNat_toNat 32 _).symm ▸ (BitVec.setWidth_eq _).symm
  have hw := Ref.out_apply (argE m) (argU m) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg7))
    (m (((0 : Dev nD).tc : Thread nD τ).loc main_arg5)) (m (((0 : Dev nD).tc : Thread nD τ).loc main_arg6)) (m (((0 : Dev nD).tc : Thread nD τ).loc main_arg8))
    i r s l
  refine Eq.trans ?_ hw.symm
  have hq : k0_cond1 (grid0.coords t) (usedWord m 0) = 1#1 ↔ IntOp.cmpi .slt (BitVec.ofNat 32 i.val) (argU m (ix1 0)) = 1#1 := by
    rw [cond1_iff, usedWord_eq, hc]
  by_cases h : IntOp.cmpi .slt (BitVec.ofNat 32 i.val) (argU m (ix1 0)) = 1#1
  · rw [if_pos h, show outBlock m hO 0 t = usedBlock (iblk m hO 0 0 t) (iblk m hO 0 1 t) (iblk m hO 0 2 t) (iblk m hO 0 3 t)
      (iblk m hO 0 4 t) (iblk m hO 0 5 t) (iblk m hO 0 6 t) from if_pos (hq.2 h)]
    have hn : (rowsAt (tbl m) (grid0.coords t)).toNat = i.val := by
      have := lt_of_slt t.val ht _ (hu _).2 h
      rw [rowsAt_tbl, hc, minsi_lt _ ht _ (hu _).1 (hu _).2]
      show min t.val _ = t.val
      omega
    rw [Ref.net_apply _ _ _ _ _ _ _ _ i e hE]
    refine (usedBlock_apply _ _ _ _ _ _ _ r s l).trans ?_
    have h0 := iblk0_apply m hO 0 t i hn
    have h1 := iblk1_apply m hO 0 t e he
    have h2 := iblk2_apply m hO 0 t e he
    have h3 := iblk3_apply m hO 0 t e he
    have h4 := iblk4_apply m hO 0 t e he
    have h5 := iblk5_apply m hO 0 t e he
    have h6 := iblk6_apply m hO 0 t e he
    have ho : (⟨128 * s.val + l.val, by omega⟩ : Fin 1024) = ⟨s.val * 128 + l.val, by omega⟩ := Fin.ext (by show 128 * s.val + l.val = s.val * 128 + l.val; omega)
    rw [ho]
    simp only [h0, h1, h2, h3, h4, h5, h6]
  · rw [if_neg h, show outBlock m hO 0 t = zeroBlock from if_neg fun h' => h (hq.1 h')]
    exact zeroBlock_apply r s l

/-- THE RESULT ARRAY is the reference of the arguments. -/
theorem result_eq (hb : ∀ x, (argE m x).toNat < 32) (hu : ∀ x, 1 ≤ (argU m x).toNat ∧ (argU m x).toNat ≤ 608) :
    (dats m hO 0 c).arrAt 7 (cfgM m hO).N = want m c := by
  refine (dats m hO 0 c).arrAt_eq_of_cover 7 (want m c) (fun t _ => ?_) (cover7 m hO)
  show ((cfgM m hO).win 7).cut (grid0.coords t) ((dats m hO 0 c).after 7 t) = _
  rw [after0_7]
  refine funext fun (j : S256x8x128.Idx) => ?_
  have ej : j = ix3 (j 0) (j 1) (j 2) := by
    funext a
    fin_cases a <;> rfl
  have er := blk7_apply (F := Ideal) m hO c t (want m c) (j 0) (j 1) (j 2)
  have e := out_block m hO c hb hu t (j 0) (j 1) (j 2)
  exact (congrArg (outBlock m hO c t) ej).trans (e.trans (er.symm.trans
    (congrArg ((((cfgM m hO).win 7).blk t).view.read (Elt Ideal) (want m c) : Vec Ideal S256x8x128 .f32) ej).symm))

end Cert.Experts

end
-- ==== Proof.Tables.lean ====
/-
  The precondition of the experts' program read: every block names one of the 32 experts, and between 1 and 608 blocks are in use.
-/
module

public import proofs.«01_k».proof.Pre_tables
public import Idealize.ShloMosaic.Lib.Pointwise

@[expose] public section

noncomputable section

namespace Cert.Tables

open Idealize.ShloMosaic

/-- The facts the precondition states. -/
theorem facts : Cert.Pre_tables.Facts := ⟨by decide, by decide⟩

/-- A word between two small bounds, read as a signed number, is between them as a natural number. -/
theorem between_lt (v : BitVec 32) (b : Nat) (hb : b < 1000)
    (h : BitVec.ofBool ((0#32).sle v) &&& BitVec.ofBool (v.slt (BitVec.ofNat 32 b)) = 1#1) : v.toNat < b := by
  have h1 : (0#32).sle v = true := by
    cases e : (0#32).sle v
    · rw [e] at h; revert h; generalize v.slt _ = x; revert x; decide
    · rfl
  have h2 : v.slt (BitVec.ofNat 32 b) = true := by
    cases e : v.slt (BitVec.ofNat 32 b)
    · rw [e] at h; revert h; generalize (0#32).sle v = x; revert x; decide
    · rfl
  rw [BitVec.sle_iff_toInt_le] at h1
  rw [BitVec.slt_iff_toInt_lt] at h2
  rw [BitVec.toInt_eq_toNat_cond, BitVec.toInt_eq_toNat_cond] at h1 h2
  simp only [BitVec.toNat_ofNat] at h1 h2
  have := v.isLt
  repeat' split at h1
  all_goals repeat' split at h2
  all_goals omega

/-- The same with both bounds reached. -/
theorem between_le (v : BitVec 32) (a b : Nat) (ha : a < 1000) (hb : b < 1000)
    (h : BitVec.ofBool ((BitVec.ofNat 32 a).sle v) &&& BitVec.ofBool (v.sle (BitVec.ofNat 32 b)) = 1#1) : a ≤ v.toNat ∧ v.toNat ≤ b := by
  have h1 : (BitVec.ofNat 32 a).sle v = true := by
    cases e : (BitVec.ofNat 32 a).sle v
    · rw [e] at h; revert h; generalize v.sle _ = x; revert x; decide
    · rfl
  have h2 : v.sle (BitVec.ofNat 32 b) = true := by
    cases e : v.sle (BitVec.ofNat 32 b)
    · rw [e] at h; revert h; generalize (BitVec.ofNat 32 a).sle v = x; revert x; decide
    · rfl
  rw [BitVec.sle_iff_toInt_le] at h1 h2
  rw [BitVec.toInt_eq_toNat_cond, BitVec.toInt_eq_toNat_cond] at h1 h2
  simp only [BitVec.toNat_ofNat] at h1 h2
  have := v.isLt
  repeat' split at h1
  all_goals repeat' split at h2
  all_goals omega

variable {F : FTy → Type} [FloatOps F] [Cert.Pre_tables.Facts]
  (A0 : IVec Cert.Pre_tables.S608 32) (A1 : IVec Cert.Pre_tables.S1 32) (A2 : FVec F Cert.Pre_tables.S155648x8x128 .f32)
  (A3 : FVec F Cert.Pre_tables.S32x1024x1024 .bf16) (A4 : FVec F Cert.Pre_tables.S32x1024x1024 .bf16)
  (A5 : FVec F Cert.Pre_tables.S32x1x1024 .f32) (A6 : FVec F Cert.Pre_tables.S32x1x1024 .f32)
  (A7 : FVec F Cert.Pre_tables.S32x1024x1024 .bf16) (A8 : FVec F Cert.Pre_tables.S32x1x1024 .f32)

/-- Every block names one of the 32 experts. -/
theorem expert_lt (h : (Cert.Pre_tables.fn A0 A1 A2 A3 A4 A5 A6 A7 A8).1 = fun _ => 1#1) (x) : (A0 x).toNat < 32 :=
  between_lt _ 32 (by omega) (congrFun h x)

/-- Between 1 and 608 blocks are in use. -/
theorem used_le (h : (Cert.Pre_tables.fn A0 A1 A2 A3 A4 A5 A6 A7 A8).2 = fun _ => 1#1) (x) : 1 ≤ (A1 x).toNat ∧ (A1 x).toNat ≤ 608 :=
  between_le _ 1 608 (by omega) (by omega) (congrFun h x)

end Cert.Tables

end
-- ==== Proof.ProjNet.lean ====
/-
  The input projection of one token over the extended reals: normalize, scale and shift, project; and what is taken from the projection.
-/
module

public import proofs.«01_k».proof.Proof.ExpertsNet

@[expose] public section

noncomputable section

namespace Cert.Proj

open Idealize.ShloMosaic

/-- The value of a word. -/
abbrev lit (w : BitVec 32) : EReal := Ideal.ofBits FTy.f32 w

/-- A vector over the root of its mean square (`len` the word of its length), times a weight. -/
def norm {n : Nat} (len : BitVec 32) (v g : Fin n → EReal) (k : Fin n) : EReal :=
  v k * Ideal.rsqrt (Ideal.div (∑ j : Fin n, v j * v j) (lit len) + lit 0x358637BD#32) * g k

/-- A token's projection: its normalized row scaled by one plus the second part of its modulation row, shifted by the first, times the weights. -/
def proj (x : Fin 1024 → EReal) (md : Fin 6144 → EReal) (g : Fin 1024 → EReal) (w : Fin 1024 → Fin 1664 → EReal) (k : Fin 1664) : EReal :=
  ∑ d : Fin 1024, (norm 0x44800000#32 x g d * (lit 0x3F800000#32 + md ⟨1024 + d.val, by omega⟩) + md ⟨d.val, by omega⟩) * w d k

/-- The normalized query part of a projection. -/
def query (p : Fin 1664 → EReal) (g : Fin 256 → EReal) (k : Fin 256) : EReal :=
  norm 0x43800000#32 (fun j : Fin 256 => p ⟨1024 + j.val, by omega⟩) g k

/-- The normalized key and value part of a projection. -/
def latent (p : Fin 1664 → EReal) (g : Fin 128 → EReal) (k : Fin 128) : EReal :=
  norm 0x43000000#32 (fun j : Fin 128 => p ⟨1280 + j.val, by omega⟩) g k

/-- The row of the modulation table a token reads: its request's, or the first for a token of the context. -/
def modRow (n : Nat) : Nat := if n < 32768 then 1 + n / 4096 else 0

/-- The row of the position tables a token reads. -/
def posRow (n : Nat) : Nat := if n < 32768 then n % 4096 else 4096 + n % 512

theorem modRow_lt {n : Nat} (h : n < 36864) : modRow n < 16 := by unfold modRow; split_ifs <;> omega

theorem posRow_lt {n : Nat} (_h : n < 36864) : posRow n < 4608 := by unfold posRow; split_ifs <;> omega

end Cert.Proj

end
-- ==== Proof.ProjValue.lean ====
/-
  The blocks the input projection leaves, read at one element at the extended reals: the projection of the block's token, and its parts.
-/
module

public import proofs.«01_k».proof.Proof.Gen.Kernel3Ideal.Frame
public import proofs.«01_k».proof.Proof.ProjNet
public import Idealize.ShloMosaic.Lib.Pointwise
public import Idealize.ShloMosaic.Lib.Pipeline.ValueKit.Tiles

@[expose] public section

set_option maxRecDepth 16384

noncomputable section

namespace Cert.Proj

open Cert.Kernel3Ideal Cert.Kernel3Ideal.Gen Idealize.ShloMosaic Idealize.ShloMosaic.TcCoe

variable (x0 : Vec Ideal S512x1024 .f32) (x1 : Vec Ideal S1x1x6144 .f32) (x2 : Vec Ideal S1x1024 .f32) (x3 : Vec Ideal S1024x1664 .bf16)
variable (x4 : Vec Ideal S1x256 .f32) (x5 x6 x : Vec Ideal S1024x256 .bf16) (x7 : Vec Ideal S1x128 .f32) (x8 x9 : Vec Ideal S128x512 .f32)
variable (x10 x11 : Vec Ideal S512x128 .f32)

/-- The projection of the block's row `r`. -/
abbrev blockProj (r : Fin 512) (k : Fin 1664) : EReal :=
  proj (fun d => x0 (ix2 r d)) (fun d => x1 (ix3 0 0 d)) (fun d => x2 (ix2 0 d)) (fun d k => x3 (ix2 d k)) k

theorem pay5_apply (r : Fin 512) (k : Fin 1664) : k0_pay5 (F := Ideal) x0 x1 x2 x3 (ix2 r k) = blockProj x0 x1 x2 x3 r k := by
  pointwise [k0_pay5, blockProj, proj, norm]

theorem pay6_apply (r : Fin 512) (k : Fin 768) : k0_pay6 (F := Ideal) x0 x1 x2 x3 (ix2 r k) = k0_pay5 x0 x1 x2 x3 (ix2 r ⟨k.val, by omega⟩) := by
  pointwise [k0_pay6]

theorem pay7_apply (r : Fin 512) (k : Fin 256) : k0_pay7 (F := Ideal) x0 x1 x2 x3 (ix2 r k) = k0_pay5 x0 x1 x2 x3 (ix2 r ⟨768 + k.val, by omega⟩) := by
  pointwise [k0_pay7]

theorem pay10_apply (r : Fin 512) (k : Fin 256) :
    k0_pay10 (k0_pay8 (F := Ideal) x0 x1 x2 x3) x4 (k0_pay9 x0 x1 x2 x3) (ix2 r k)
      = query (fun k => k0_pay5 x0 x1 x2 x3 (ix2 r k)) (fun k => x4 (ix2 0 k)) k := by
  pointwise [k0_pay10, k0_pay8, k0_pay9, query, norm]

theorem pay11_apply (v31 v35) (o : Fin 1024) (r : Fin 512) :
    k0_pay11 (F := Ideal) v31 x4 v35 x (ix2 o r) = ∑ k : Fin 256, x (ix2 o k) * k0_pay10 v31 x4 v35 (ix2 r k) := by
  pointwise [k0_pay11]

theorem pay12_apply (v31 v35) (o : Fin 1024) (r : Fin 512) :
    k0_pay12 (F := Ideal) v31 x4 v35 x (ix2 o r) = ∑ k : Fin 256, x (ix2 o k) * k0_pay10 v31 x4 v35 (ix2 r k) := by
  pointwise [k0_pay12]

theorem pay1_apply (p : FVec Ideal S512x1664 .f32) (r : Fin 512) (k : Fin 128) :
    k0_pay1 (F := Ideal) (k0_pay22 p) x7 (k0_pay23 p) (Scalar.ofBits .f32 0x358637BD#32) (ix2 r k)
      = latent (fun k => p (ix2 r k)) (fun k => x7 (ix2 0 k)) k := by
  pointwise [k0_pay1, k0_pay22, k0_pay23, latent, norm]

theorem pay3_apply (p : FVec Ideal S512x1664 .f32) (r : Fin 512) (k : Fin 32) :
    k0_pay3 (F := Ideal) p (ix2 r k) = p (ix2 r ⟨1408 + k.val, by omega⟩) := by
  pointwise [k0_pay3, k0_pay2]

theorem pay4_apply (p : FVec Ideal S512x1664 .f32) (r : Fin 512) (k : Fin 128) :
    k0_pay4 (F := Ideal) p x10 x11 (ix2 r k) = p (ix2 r ⟨1408 + k.val, by omega⟩) * x10 (ix2 r k) + p (ix2 r ⟨1536 + k.val, by omega⟩) * x11 (ix2 r k) := by
  pointwise [k0_pay4, k0_pay2]

/-- One element of the queries the block leaves. -/
def blockQ (A B : FVec Ideal S1024x512 .f32) (c s : Vec Ideal S128x512 .f32) (o : Fin 1024) (r : Fin 512) : EReal :=
  A (ix2 o r) * c (ix2 ⟨o.val % 128, by omega⟩ r) + B (ix2 o r) * s (ix2 ⟨o.val % 128, by omega⟩ r)

variable (A B : FVec Ideal S1024x512 .f32)

theorem pay18_apply (a : Fin 128) (r : Fin 512) :
    k0_pay18 (F := Ideal) A B x8 x9 (ix2 a r) = blockQ A B x8 x9 ⟨512 + a.val, by omega⟩ r := by
  have e : (⟨(512 + a.val) % 128, by omega⟩ : Fin 128) = a := Fin.ext (by show (512 + a.val) % 128 = a.val; omega)
  simp only [blockQ, e]
  pointwise [k0_pay18]

theorem pay19_apply (a : Fin 128) (r : Fin 512) :
    k0_pay19 (F := Ideal) A B x8 x9 (ix2 a r) = blockQ A B x8 x9 ⟨640 + a.val, by omega⟩ r := by
  have e : (⟨(640 + a.val) % 128, by omega⟩ : Fin 128) = a := Fin.ext (by show (640 + a.val) % 128 = a.val; omega)
  simp only [blockQ, e]
  pointwise [k0_pay19]

theorem pay20_apply (a : Fin 128) (r : Fin 512) :
    k0_pay20 (F := Ideal) A B x8 x9 (ix2 a r) = blockQ A B x8 x9 ⟨768 + a.val, by omega⟩ r := by
  have e : (⟨(768 + a.val) % 128, by omega⟩ : Fin 128) = a := Fin.ext (by show (768 + a.val) % 128 = a.val; omega)
  simp only [blockQ, e]
  pointwise [k0_pay20]

theorem pay21_apply (a : Fin 128) (r : Fin 512) :
    k0_pay21 (F := Ideal) A B x8 x9 (ix2 a r) = blockQ A B x8 x9 ⟨896 + a.val, by omega⟩ r := by
  have e : (⟨(896 + a.val) % 128, by omega⟩ : Fin 128) = a := Fin.ext (by show (896 + a.val) % 128 = a.val; omega)
  simp only [blockQ, e]
  pointwise [k0_pay21]

theorem pay13_apply (v31 v35) (a : Fin 128) (r : Fin 512) :
    k0_pay13 (F := Ideal) v31 x4 v35 x5 x6 x8 x9 (ix2 a r) = blockQ (k0_pay11 v31 x4 v35 x5) (k0_pay12 v31 x4 v35 x6) x8 x9 ⟨0 + a.val, by omega⟩ r := by
  have e : (⟨(0 + a.val) % 128, by omega⟩ : Fin 128) = a := Fin.ext (by show (0 + a.val) % 128 = a.val; omega)
  simp only [blockQ, e]
  pointwise [k0_pay13]

theorem pay14_apply (v31 v35) (a : Fin 128) (r : Fin 512) :
    k0_pay14 (F := Ideal) v31 x4 v35 x5 x6 x8 x9 (ix2 a r) = blockQ (k0_pay11 v31 x4 v35 x5) (k0_pay12 v31 x4 v35 x6) x8 x9 ⟨128 + a.val, by omega⟩ r := by
  have e : (⟨(128 + a.val) % 128, by omega⟩ : Fin 128) = a := Fin.ext (by show (128 + a.val) % 128 = a.val; omega)
  simp only [blockQ, e]
  pointwise [k0_pay14]

theorem pay15_apply (v31 v35) (a : Fin 128) (r : Fin 512) :
    k0_pay15 (F := Ideal) v31 x4 v35 x5 x6 x8 x9 (ix2 a r) = blockQ (k0_pay11 v31 x4 v35 x5) (k0_pay12 v31 x4 v35 x6) x8 x9 ⟨256 + a.val, by omega⟩ r := by
  have e : (⟨(256 + a.val) % 128, by omega⟩ : Fin 128) = a := Fin.ext (by show (256 + a.val) % 128 = a.val; omega)
  simp only [blockQ, e]
  pointwise [k0_pay15]

theorem pay17_apply (v31 v35) (a : Fin 128) (r : Fin 512) :
    k0_pay17 (F := Ideal) B x9 (k0_pay16 v31 x4 v35 x5 x8) (ix2 a r) = blockQ (k0_pay11 v31 x4 v35 x5) B x8 x9 ⟨384 + a.val, by omega⟩ r := by
  have e : (⟨(384 + a.val) % 128, by omega⟩ : Fin 128) = a := Fin.ext (by show (384 + a.val) % 128 = a.val; omega)
  simp only [blockQ, e]
  pointwise [k0_pay17, k0_pay16]

/-- A load of the whole reads the contents. -/
theorem ld_whole {n k : Nat} {e : EltTy} (X : Vec Ideal ⟨2, ![n, k]⟩ e) (inb) :
    View.ld X (Rect.unit (s := ⟨2, ![n, k]⟩) ![0, 0] ![n, k] inb) = X := by
  refine funext fun i => View.ld_unit_apply_of X _ _ inb i i fun a => ?_
  fin_cases a <;> exact (Nat.zero_add _).symm

theorem ld_whole3 {a b d : Nat} {e : EltTy} (X : Vec Ideal ⟨3, ![a, b, d]⟩ e) (inb) :
    View.ld X (Rect.unit (s := ⟨3, ![a, b, d]⟩) ![0, 0, 0] ![a, b, d] inb) = X := by
  refine funext fun i => View.ld_unit_apply_of X _ _ inb i i fun a => ?_
  fin_cases a <;> exact (Nat.zero_add _).symm

/-- One store of the whole leaves the payload. -/
theorem canon_whole {n k : Nat} {e : EltTy} (inb) (w : Vec Ideal ⟨2, ![n, k]⟩ e) :
    View.canon [(⟨Rect.unit (s := ⟨2, ![n, k]⟩) ![0, 0] ![n, k] inb, w⟩ : View.Piece (Elt Ideal) ⟨2, ![n, k]⟩ e)] = w :=
  View.canon_cons_unit_zero (funext fun a => by fin_cases a <;> rfl) inb w []

theorem load0 : View.ld x0 r0_0 = x0 := ld_whole x0 _
theorem load1 : View.ld x1 r0_1 = x1 := ld_whole3 x1 _
theorem load2 : View.ld x2 r0_2 = x2 := ld_whole x2 _
theorem load3 : View.ld x3 r0_3 = x3 := ld_whole x3 _
theorem load4 : View.ld x4 r0_6 = x4 := ld_whole x4 _
theorem load5 : View.ld x5 r0_7 = x5 := ld_whole x5 _
theorem load7 : View.ld x7 r0_17 = x7 := ld_whole x7 _
theorem load8 : View.ld x8 r0_8 = x8 := ld_whole x8 _
theorem load10 : View.ld x10 r0_18 = x10 := ld_whole x10 _

theorem pay24_eq : k0_pay24 x0 x1 x2 x3 x4 x5 x6 x7 x8 x9 x10 x11 = k0_pay5 (F := Ideal) x0 x1 x2 x3 := by
  unfold k0_pay24
  rw [load0, load1, load2, load3]

theorem out12_apply (r : Fin 512) (k : Fin 768) :
    out0_12 (F := Ideal) x0 x1 x2 x3 x4 x5 x6 x7 x8 x9 x10 x11 (ix2 r k) = blockProj x0 x1 x2 x3 r ⟨k.val, by omega⟩ := by
  unfold out0_12
  rw [load0, load1, load2, load3, ← pay5_apply, ← pay6_apply]
  exact congrFun (canon_whole _ _) _

theorem out13_apply (r : Fin 512) (k : Fin 256) :
    out0_13 (F := Ideal) x0 x1 x2 x3 x4 x5 x6 x7 x8 x9 x10 x11 (ix2 r k) = blockProj x0 x1 x2 x3 r ⟨768 + k.val, by omega⟩ := by
  unfold out0_13
  rw [load0, load1, load2, load3, ← pay5_apply, ← pay7_apply]
  exact congrFun (canon_whole _ _) _

theorem out15_apply (r : Fin 512) (k : Fin 128) :
    out0_15 (F := Ideal) x0 x1 x2 x3 x4 x5 x6 x7 x8 x9 x10 x11 (ix2 r k)
      = latent (blockProj x0 x1 x2 x3 r) (fun k => x7 (ix2 0 k)) k := by
  unfold out0_15
  rw [load7, pay24_eq]
  refine (congrFun (canon_whole _ _) _).trans ((pay1_apply x7 _ r k).trans ?_)
  simp only [pay5_apply]

theorem out16_apply (r : Fin 512) (k : Fin 32) :
    out0_16 (F := Ideal) x0 x1 x2 x3 x4 x5 x6 x7 x8 x9 x10 x11 (ix2 r k) = blockProj x0 x1 x2 x3 r ⟨1408 + k.val, by omega⟩ := by
  unfold out0_16
  rw [pay24_eq, ← pay5_apply, ← pay3_apply (k0_pay5 x0 x1 x2 x3) r k]
  exact congrFun (canon_whole _ _) _

theorem out17_apply (r : Fin 512) (k : Fin 128) :
    out0_17 (F := Ideal) x0 x1 x2 x3 x4 x5 x6 x7 x8 x9 x10 x11 (ix2 r k)
      = blockProj x0 x1 x2 x3 r ⟨1408 + k.val, by omega⟩ * x10 (ix2 r k) + blockProj x0 x1 x2 x3 r ⟨1536 + k.val, by omega⟩ * x11 (ix2 r k) := by
  unfold out0_17
  rw [pay24_eq, load10, load10 x11]
  refine (congrFun (canon_whole _ _) _).trans ((pay4_apply x10 x11 _ r k).trans ?_)
  simp only [pay5_apply]

/-- A stored tile of 128 rows, where it holds a place. -/
theorem tile_at (Q : Fin 1024 → Fin 512 → EReal) (off : Nat) (hoff : off + 128 ≤ 1024) (W : Vec Ideal S128x512 .bf16)
    (hW : ∀ (a : Fin 128) (r : Fin 512), W (ix2 a r) = Q ⟨off + a.val, by omega⟩ r) (o : Fin 1024) (r : Fin 512) :
    View.TileAt (Val := Elt Ideal) (S := S1024x512) (e := .bf16) (ix2 o r) ![off, 0] S128x512.size W (Q o r) := by
  intro (y : S128x512.Idx) hy
  have h0 : o.val = off + (y 0).val := hy 0
  have h1 : r.val = 0 + (y 1).val := hy 1
  have ey : y = ix2 (y 0) (y 1) := by funext a; fin_cases a <;> rfl
  refine (congrArg W ey).trans ((hW _ _).trans (congrArg₂ Q (Fin.ext h0.symm) (Fin.ext (by omega))))

theorem out14_apply (o : Fin 1024) (r : Fin 512) :
    out0_14 (F := Ideal) x0 x1 x2 x3 x4 x5 x6 x7 x8 x9 x10 x11 (ix2 o r)
      = (∑ k : Fin 256, x5 (ix2 o k) * query (blockProj x0 x1 x2 x3 r) (fun k => x4 (ix2 0 k)) k) * x8 (ix2 ⟨o.val % 128, by omega⟩ r)
        + (∑ k : Fin 256, x6 (ix2 o k) * query (blockProj x0 x1 x2 x3 r) (fun k => x4 (ix2 0 k)) k) * x9 (ix2 ⟨o.val % 128, by omega⟩ r) := by
  have hA := pay11_apply x4 x5 (k0_pay8 (F := Ideal) x0 x1 x2 x3) (k0_pay9 x0 x1 x2 x3) o r
  have hB := pay12_apply x4 x6 (k0_pay8 (F := Ideal) x0 x1 x2 x3) (k0_pay9 x0 x1 x2 x3) o r
  simp only [pay10_apply, pay5_apply] at hA hB
  rw [← hA, ← hB]
  unfold out0_14 k0_pay27 k0_pay28 k0_pay25 k0_pay26
  rw [load0, load1, load2, load3, load4, load5, load5 x6, load8, load8 x9]
  let Q := blockQ (k0_pay11 (k0_pay8 (F := Ideal) x0 x1 x2 x3) x4 (k0_pay9 x0 x1 x2 x3) x5)
    (k0_pay12 (k0_pay8 (F := Ideal) x0 x1 x2 x3) x4 (k0_pay9 x0 x1 x2 x3) x6) x8 x9
  refine View.canon_eq_of_allAt (Val := Elt Ideal) (S := S1024x512) (e := .bf16) _ _ (Q o r) (cover0_14 _ _ _ _ _ _ _ _ _) ?_
  refine View.allAt_cons_unit _ _ _ _ _ (tile_at Q 896 (by omega) _ (pay21_apply _ _ _ _) o r) ?_
  refine View.allAt_cons_unit _ _ _ _ _ (tile_at Q 768 (by omega) _ (pay20_apply _ _ _ _) o r) ?_
  refine View.allAt_cons_unit _ _ _ _ _ (tile_at Q 640 (by omega) _ (pay19_apply _ _ _ _) o r) ?_
  refine View.allAt_cons_unit _ _ _ _ _ (tile_at Q 512 (by omega) _ (pay18_apply _ _ _ _) o r) ?_
  refine View.allAt_cons_unit _ _ _ _ _ (tile_at Q 384 (by omega) _ (pay17_apply _ _ _ _ _ _ _) o r) ?_
  refine View.allAt_cons_unit _ _ _ _ _ (tile_at Q 256 (by omega) _ (pay15_apply _ _ _ _ _ _ _) o r) ?_
  refine View.allAt_cons_unit _ _ _ _ _ (tile_at Q 128 (by omega) _ (pay14_apply _ _ _ _ _ _ _) o r) ?_
  refine View.allAt_cons_unit _ _ _ _ _ (tile_at Q 0 (by omega) _ (pay13_apply _ _ _ _ _ _ _) o r) ?_
  exact View.allAt_nil _ _

end Cert.Proj

end
-- ==== Proof.ProjWindows.lean ====
/-
  The blocks of the input projection: what each grid point's windows read of the arguments, and that the blocks of each result cover it.
-/
module

public import proofs.«01_k».proof.Proof.Gen.Kernel3Ideal.Frame
public import proofs.«01_k».proof.Proof.ProjNet
public import Idealize.ShloMosaic.Lib.Pointwise

@[expose] public section

noncomputable section

namespace Cert.Proj

open Cert.Kernel3Ideal Cert.Kernel3Ideal.Gen Idealize.ShloMosaic Idealize.ShloMosaic.TcCoe

variable {F : FTy → Type} [FloatOps F]
variable (m : (ℓ : Loc nD τ sig) → Buf (Elt F) ℓ)

theorem pt_lt (t : Fin cfg0.N) : t.val < 72 := lt_of_lt_of_eq t.isLt (by decide)

/-- The token of row `r` of the point's block. -/
def tok (t : Fin cfg0.N) (r : Fin 512) : Fin 36864 := ⟨t.val * 512 + r.val, by have := pt_lt t; omega⟩

theorem modRow_tok (t : Fin cfg0.N) (r : Fin 512) : modRow (tok t r).val = if t.val < 64 then 1 + t.val / 8 else 0 := by
  show modRow (t.val * 512 + r.val) = _
  unfold modRow
  split_ifs <;> omega

theorem posRow_tok (t : Fin cfg0.N) (r : Fin 512) : posRow (tok t r).val = (if t.val < 64 then t.val % 8 else 8) * 512 + r.val := by
  show posRow (t.val * 512 + r.val) = _
  have := pt_lt t
  unfold posRow
  split_ifs <;> omega

theorem index0 : ∀ t : Fin cfg0.N, win0_0.index t 0 = t.val ∧ win0_0.index t 1 = 0 :=
  (by decide +kernel : ∀ t : Fin grid0.N, win0_0.index t 0 = t.val ∧ win0_0.index t 1 = 0)

theorem iblk0_apply (c : Dev nD) (t : Fin cfg0.N) (a : Fin 512) (b : Fin 1024) :
    (iblk m c 0 t : Vec F S512x1024 .f32) (ix2 a b) = m ((c.tc : Thread nD τ).loc main_arg0) (ix2 (tok t a) b : S36864x1024.Idx) := by
  show m ((c.tc : Thread nD τ).loc main_arg0) ((win0_0.rect t).emb (ix2 a b)) = _
  refine congrArg _ (funext fun d => Fin.ext ?_)
  obtain ⟨e0, e1⟩ := index0 t
  fin_cases d
  · change win0_0.index t 0 * 512 + 1 * a.val = _
    rw [e0, one_mul]; rfl
  · change win0_0.index t 1 * 1024 + 1 * b.val = _
    rw [e1, one_mul, zero_mul, zero_add]; rfl

theorem index2 : ∀ t : Fin cfg0.N, win0_2.index t 0 = 0 ∧ win0_2.index t 1 = 0 :=
  (by decide +kernel : ∀ t : Fin grid0.N, win0_2.index t 0 = 0 ∧ win0_2.index t 1 = 0)

theorem iblk2_apply (c : Dev nD) (t : Fin cfg0.N) (a : Fin 1) (b : Fin 1024) :
    (iblk m c 2 t : Vec F S1x1024 .f32) (ix2 a b) = m ((c.tc : Thread nD τ).loc main_arg2) (ix2 a b : S1x1024.Idx) := by
  show m ((c.tc : Thread nD τ).loc main_arg2) ((win0_2.rect t).emb (ix2 a b)) = _
  refine congrArg _ (funext fun d => Fin.ext ?_)
  obtain ⟨e0, e1⟩ := index2 t
  fin_cases d
  · change win0_2.index t 0 * 1 + 1 * a.val = _
    rw [e0, one_mul, zero_mul, zero_add]; rfl
  · change win0_2.index t 1 * 1024 + 1 * b.val = _
    rw [e1, one_mul, zero_mul, zero_add]; rfl

theorem index3 : ∀ t : Fin cfg0.N, win0_3.index t 0 = 0 ∧ win0_3.index t 1 = 0 :=
  (by decide +kernel : ∀ t : Fin grid0.N, win0_3.index t 0 = 0 ∧ win0_3.index t 1 = 0)

theorem iblk3_apply (c : Dev nD) (t : Fin cfg0.N) (a : Fin 1024) (b : Fin 1664) :
    (iblk m c 3 t : Vec F S1024x1664 .bf16) (ix2 a b) = m ((c.tc : Thread nD τ).loc main_arg3) (ix2 a b : S1024x1664.Idx) := by
  show m ((c.tc : Thread nD τ).loc main_arg3) ((win0_3.rect t).emb (ix2 a b)) = _
  refine congrArg _ (funext fun d => Fin.ext ?_)
  obtain ⟨e0, e1⟩ := index3 t
  fin_cases d
  · change win0_3.index t 0 * 1024 + 1 * a.val = _
    rw [e0, one_mul, zero_mul, zero_add]; rfl
  · change win0_3.index t 1 * 1664 + 1 * b.val = _
    rw [e1, one_mul, zero_mul, zero_add]; rfl

theorem index4 : ∀ t : Fin cfg0.N, win0_4.index t 0 = 0 ∧ win0_4.index t 1 = 0 :=
  (by decide +kernel : ∀ t : Fin grid0.N, win0_4.index t 0 = 0 ∧ win0_4.index t 1 = 0)

theorem iblk4_apply (c : Dev nD) (t : Fin cfg0.N) (a : Fin 1) (b : Fin 256) :
    (iblk m c 4 t : Vec F S1x256 .f32) (ix2 a b) = m ((c.tc : Thread nD τ).loc main_arg4) (ix2 a b : S1x256.Idx) := by
  show m ((c.tc : Thread nD τ).loc main_arg4) ((win0_4.rect t).emb (ix2 a b)) = _
  refine congrArg _ (funext fun d => Fin.ext ?_)
  obtain ⟨e0, e1⟩ := index4 t
  fin_cases d
  · change win0_4.index t 0 * 1 + 1 * a.val = _
    rw [e0, one_mul, zero_mul, zero_add]; rfl
  · change win0_4.index t 1 * 256 + 1 * b.val = _
    rw [e1, one_mul, zero_mul, zero_add]; rfl

theorem index5 : ∀ t : Fin cfg0.N, win0_5.index t 0 = 0 ∧ win0_5.index t 1 = 0 :=
  (by decide +kernel : ∀ t : Fin grid0.N, win0_5.index t 0 = 0 ∧ win0_5.index t 1 = 0)

theorem iblk5_apply (c : Dev nD) (t : Fin cfg0.N) (a : Fin 1024) (b : Fin 256) :
    (iblk m c 5 t : Vec F S1024x256 .bf16) (ix2 a b) = m ((c.tc : Thread nD τ).loc main_arg5) (ix2 a b : S1024x256.Idx) := by
  show m ((c.tc : Thread nD τ).loc main_arg5) ((win0_5.rect t).emb (ix2 a b)) = _
  refine congrArg _ (funext fun d => Fin.ext ?_)
  obtain ⟨e0, e1⟩ := index5 t
  fin_cases d
  · change win0_5.index t 0 * 1024 + 1 * a.val = _
    rw [e0, one_mul, zero_mul, zero_add]; rfl
  · change win0_5.index t 1 * 256 + 1 * b.val = _
    rw [e1, one_mul, zero_mul, zero_add]; rfl

theorem index6 : ∀ t : Fin cfg0.N, win0_6.index t 0 = 0 ∧ win0_6.index t 1 = 0 :=
  (by decide +kernel : ∀ t : Fin grid0.N, win0_6.index t 0 = 0 ∧ win0_6.index t 1 = 0)

theorem iblk6_apply (c : Dev nD) (t : Fin cfg0.N) (a : Fin 1024) (b : Fin 256) :
    (iblk m c 6 t : Vec F S1024x256 .bf16) (ix2 a b) = m ((c.tc : Thread nD τ).loc main_arg6) (ix2 a b : S1024x256.Idx) := by
  show m ((c.tc : Thread nD τ).loc main_arg6) ((win0_6.rect t).emb (ix2 a b)) = _
  refine congrArg _ (funext fun d => Fin.ext ?_)
  obtain ⟨e0, e1⟩ := index6 t
  fin_cases d
  · change win0_6.index t 0 * 1024 + 1 * a.val = _
    rw [e0, one_mul, zero_mul, zero_add]; rfl
  · change win0_6.index t 1 * 256 + 1 * b.val = _
    rw [e1, one_mul, zero_mul, zero_add]; rfl

theorem index7 : ∀ t : Fin cfg0.N, win0_7.index t 0 = 0 ∧ win0_7.index t 1 = 0 :=
  (by decide +kernel : ∀ t : Fin grid0.N, win0_7.index t 0 = 0 ∧ win0_7.index t 1 = 0)

theorem iblk7_apply (c : Dev nD) (t : Fin cfg0.N) (a : Fin 1) (b : Fin 128) :
    (iblk m c 7 t : Vec F S1x128 .f32) (ix2 a b) = m ((c.tc : Thread nD τ).loc main_arg7) (ix2 a b : S1x128.Idx) := by
  show m ((c.tc : Thread nD τ).loc main_arg7) ((win0_7.rect t).emb (ix2 a b)) = _
  refine congrArg _ (funext fun d => Fin.ext ?_)
  obtain ⟨e0, e1⟩ := index7 t
  fin_cases d
  · change win0_7.index t 0 * 1 + 1 * a.val = _
    rw [e0, one_mul, zero_mul, zero_add]; rfl
  · change win0_7.index t 1 * 128 + 1 * b.val = _
    rw [e1, one_mul, zero_mul, zero_add]; rfl

theorem index8 : ∀ t : Fin cfg0.N, win0_8.index t 0 = 0 ∧ win0_8.index t 1 = (if t.val < 64 then t.val % 8 else 8) :=
  (by decide +kernel : ∀ t : Fin grid0.N, win0_8.index t 0 = 0 ∧ win0_8.index t 1 = (if t.val < 64 then t.val % 8 else 8))

theorem iblk8_apply (c : Dev nD) (t : Fin cfg0.N) (a : Fin 128) (b : Fin 512) :
    (iblk m c 8 t : Vec F S128x512 .f32) (ix2 a b) = m ((c.tc : Thread nD τ).loc main_arg8) (ix2 a ⟨posRow (tok t b).val, posRow_lt (tok t b).isLt⟩ : S128x4608.Idx) := by
  show m ((c.tc : Thread nD τ).loc main_arg8) ((win0_8.rect t).emb (ix2 a b)) = _
  refine congrArg _ (funext fun d => Fin.ext ?_)
  obtain ⟨e0, e1⟩ := index8 t
  fin_cases d
  · change win0_8.index t 0 * 128 + 1 * a.val = _
    rw [e0, one_mul, zero_mul, zero_add]; rfl
  · change win0_8.index t 1 * 512 + 1 * b.val = posRow (tok t b).val
    rw [e1, one_mul, posRow_tok]

theorem index9 : ∀ t : Fin cfg0.N, win0_9.index t 0 = 0 ∧ win0_9.index t 1 = (if t.val < 64 then t.val % 8 else 8) :=
  (by decide +kernel : ∀ t : Fin grid0.N, win0_9.index t 0 = 0 ∧ win0_9.index t 1 = (if t.val < 64 then t.val % 8 else 8))

theorem iblk9_apply (c : Dev nD) (t : Fin cfg0.N) (a : Fin 128) (b : Fin 512) :
    (iblk m c 9 t : Vec F S128x512 .f32) (ix2 a b) = m ((c.tc : Thread nD τ).loc main_arg9) (ix2 a ⟨posRow (tok t b).val, posRow_lt (tok t b).isLt⟩ : S128x4608.Idx) := by
  show m ((c.tc : Thread nD τ).loc main_arg9) ((win0_9.rect t).emb (ix2 a b)) = _
  refine congrArg _ (funext fun d => Fin.ext ?_)
  obtain ⟨e0, e1⟩ := index9 t
  fin_cases d
  · change win0_9.index t 0 * 128 + 1 * a.val = _
    rw [e0, one_mul, zero_mul, zero_add]; rfl
  · change win0_9.index t 1 * 512 + 1 * b.val = posRow (tok t b).val
    rw [e1, one_mul, posRow_tok]

theorem index10 : ∀ t : Fin cfg0.N, win0_10.index t 0 = (if t.val < 64 then t.val % 8 else 8) ∧ win0_10.index t 1 = 0 :=
  (by decide +kernel : ∀ t : Fin grid0.N, win0_10.index t 0 = (if t.val < 64 then t.val % 8 else 8) ∧ win0_10.index t 1 = 0)

theorem iblk10_apply (c : Dev nD) (t : Fin cfg0.N) (a : Fin 512) (b : Fin 128) :
    (iblk m c 10 t : Vec F S512x128 .f32) (ix2 a b) = m ((c.tc : Thread nD τ).loc main_arg10) (ix2 ⟨posRow (tok t a).val, posRow_lt (tok t a).isLt⟩ b : S4608x128.Idx) := by
  show m ((c.tc : Thread nD τ).loc main_arg10) ((win0_10.rect t).emb (ix2 a b)) = _
  refine congrArg _ (funext fun d => Fin.ext ?_)
  obtain ⟨e0, e1⟩ := index10 t
  fin_cases d
  · change win0_10.index t 0 * 512 + 1 * a.val = posRow (tok t a).val
    rw [e0, one_mul, posRow_tok]
  · change win0_10.index t 1 * 128 + 1 * b.val = _
    rw [e1, one_mul, zero_mul, zero_add]; rfl

theorem index11 : ∀ t : Fin cfg0.N, win0_11.index t 0 = (if t.val < 64 then t.val % 8 else 8) ∧ win0_11.index t 1 = 0 :=
  (by decide +kernel : ∀ t : Fin grid0.N, win0_11.index t 0 = (if t.val < 64 then t.val % 8 else 8) ∧ win0_11.index t 1 = 0)

theorem iblk11_apply (c : Dev nD) (t : Fin cfg0.N) (a : Fin 512) (b : Fin 128) :
    (iblk m c 11 t : Vec F S512x128 .f32) (ix2 a b) = m ((c.tc : Thread nD τ).loc main_arg11) (ix2 ⟨posRow (tok t a).val, posRow_lt (tok t a).isLt⟩ b : S4608x128.Idx) := by
  show m ((c.tc : Thread nD τ).loc main_arg11) ((win0_11.rect t).emb (ix2 a b)) = _
  refine congrArg _ (funext fun d => Fin.ext ?_)
  obtain ⟨e0, e1⟩ := index11 t
  fin_cases d
  · change win0_11.index t 0 * 512 + 1 * a.val = posRow (tok t a).val
    rw [e0, one_mul, posRow_tok]
  · change win0_11.index t 1 * 128 + 1 * b.val = _
    rw [e1, one_mul, zero_mul, zero_add]; rfl

theorem index1 : ∀ t : Fin cfg0.N, win0_1.index t 0 = (if t.val < 64 then 1 + t.val / 8 else 0) ∧ win0_1.index t 1 = 0 ∧ win0_1.index t 2 = 0 :=
  (by decide +kernel : ∀ t : Fin grid0.N, win0_1.index t 0 = (if t.val < 64 then 1 + t.val / 8 else 0) ∧ win0_1.index t 1 = 0 ∧ win0_1.index t 2 = 0)

theorem iblk1_apply (c : Dev nD) (t : Fin cfg0.N) (r : Fin 512) (b : Fin 6144) :
    (iblk m c 1 t : Vec F S1x1x6144 .f32) (ix3 0 0 b)
      = m ((c.tc : Thread nD τ).loc main_arg1) (ix3 ⟨modRow (tok t r).val, modRow_lt (tok t r).isLt⟩ 0 b : S16x1x6144.Idx) := by
  show m ((c.tc : Thread nD τ).loc main_arg1) ((win0_1.rect t).emb (ix3 0 0 b)) = _
  refine congrArg _ (funext fun d => Fin.ext ?_)
  obtain ⟨e0, e1, e2⟩ := index1 t
  fin_cases d
  · change win0_1.index t 0 * 1 + 1 * 0 = modRow (tok t r).val
    rw [e0, modRow_tok, mul_one, mul_zero, add_zero]
  · change win0_1.index t 1 * 1 + 1 * 0 = 0
    rw [e1]
  · change win0_1.index t 2 * 6144 + 1 * b.val = _
    rw [e2, one_mul, zero_mul, zero_add]; rfl

theorem index12 : ∀ t : Fin cfg0.N, win0_12.index t 0 = t.val ∧ win0_12.index t 1 = 0 :=
  (by decide +kernel : ∀ t : Fin grid0.N, win0_12.index t 0 = t.val ∧ win0_12.index t 1 = 0)

theorem blk12_apply (c : Dev nD) (t : Fin cfg0.N) (G : Buf (Elt F) ((c.tc : Thread nD τ).loc main_v0_0)) (a : Fin 512) (b : Fin 768) :
    (((cfg0.win 12).blk t).view.read (Elt F) G : Vec F S512x768 .f32) (ix2 a b) = G (ix2 (tok t a) b : S36864x768.Idx) := by
  show G ((win0_12.rect t).emb (ix2 a b)) = _
  refine congrArg _ (funext fun d => Fin.ext ?_)
  obtain ⟨e0, e1⟩ := index12 t
  fin_cases d
  · change win0_12.index t 0 * 512 + 1 * a.val = _
    rw [e0, one_mul]; rfl
  · change win0_12.index t 1 * 768 + 1 * b.val = _
    rw [e1, one_mul, zero_mul, zero_add]; rfl

theorem cover12 (i : S36864x768.Idx) : ∃ t : Fin cfg0.N, (cfg0.win 12).flush t = true ∧ i ∈ ((cfg0.win 12).blk t).view.set := by
  have h0 : (i 0).val < 36864 := (i 0).isLt
  have h1 : (i 1).val < 768 := (i 1).isLt
  have hN : cfg0.N = 72 := by decide
  let t : Fin cfg0.N := ⟨(i 0).val / 512, by omega⟩
  refine ⟨t, flush0_12 t, ?_⟩
  show i ∈ ((View.whole main_v0_0).slice (win0_12.rect t)).set
  rw [View.set_slice_whole, Rect.mem_set_unit]
  obtain ⟨e0, e1⟩ := index12 t
  have ht : t.val = (i 0).val / 512 := rfl
  intro a
  fin_cases a
  · change win0_12.index t 0 * 512 ≤ (i 0).val ∧ (i 0).val < win0_12.index t 0 * 512 + 512
    rw [e0]; omega
  · change win0_12.index t 1 * 768 ≤ (i 1).val ∧ (i 1).val < win0_12.index t 1 * 768 + 768
    rw [e1]; omega

theorem index13 : ∀ t : Fin cfg0.N, win0_13.index t 0 = t.val ∧ win0_13.index t 1 = 0 :=
  (by decide +kernel : ∀ t : Fin grid0.N, win0_13.index t 0 = t.val ∧ win0_13.index t 1 = 0)

theorem blk13_apply (c : Dev nD) (t : Fin cfg0.N) (G : Buf (Elt F) ((c.tc : Thread nD τ).loc main_v0_1)) (a : Fin 512) (b : Fin 256) :
    (((cfg0.win 13).blk t).view.read (Elt F) G : Vec F S512x256 .f32) (ix2 a b) = G (ix2 (tok t a) b : S36864x256.Idx) := by
  show G ((win0_13.rect t).emb (ix2 a b)) = _
  refine congrArg _ (funext fun d => Fin.ext ?_)
  obtain ⟨e0, e1⟩ := index13 t
  fin_cases d
  · change win0_13.index t 0 * 512 + 1 * a.val = _
    rw [e0, one_mul]; rfl
  · change win0_13.index t 1 * 256 + 1 * b.val = _
    rw [e1, one_mul, zero_mul, zero_add]; rfl

theorem cover13 (i : S36864x256.Idx) : ∃ t : Fin cfg0.N, (cfg0.win 13).flush t = true ∧ i ∈ ((cfg0.win 13).blk t).view.set := by
  have h0 : (i 0).val < 36864 := (i 0).isLt
  have h1 : (i 1).val < 256 := (i 1).isLt
  have hN : cfg0.N = 72 := by decide
  let t : Fin cfg0.N := ⟨(i 0).val / 512, by omega⟩
  refine ⟨t, flush0_13 t, ?_⟩
  show i ∈ ((View.whole main_v0_1).slice (win0_13.rect t)).set
  rw [View.set_slice_whole, Rect.mem_set_unit]
  obtain ⟨e0, e1⟩ := index13 t
  have ht : t.val = (i 0).val / 512 := rfl
  intro a
  fin_cases a
  · change win0_13.index t 0 * 512 ≤ (i 0).val ∧ (i 0).val < win0_13.index t 0 * 512 + 512
    rw [e0]; omega
  · change win0_13.index t 1 * 256 ≤ (i 1).val ∧ (i 1).val < win0_13.index t 1 * 256 + 256
    rw [e1]; omega

theorem index14 : ∀ t : Fin cfg0.N, win0_14.index t 0 = 0 ∧ win0_14.index t 1 = t.val :=
  (by decide +kernel : ∀ t : Fin grid0.N, win0_14.index t 0 = 0 ∧ win0_14.index t 1 = t.val)

theorem blk14_apply (c : Dev nD) (t : Fin cfg0.N) (G : Buf (Elt F) ((c.tc : Thread nD τ).loc main_v0_2)) (a : Fin 1024) (b : Fin 512) :
    (((cfg0.win 14).blk t).view.read (Elt F) G : Vec F S1024x512 .bf16) (ix2 a b) = G (ix2 a (tok t b) : S1024x36864.Idx) := by
  show G ((win0_14.rect t).emb (ix2 a b)) = _
  refine congrArg _ (funext fun d => Fin.ext ?_)
  obtain ⟨e0, e1⟩ := index14 t
  fin_cases d
  · change win0_14.index t 0 * 1024 + 1 * a.val = _
    rw [e0, one_mul, zero_mul, zero_add]; rfl
  · change win0_14.index t 1 * 512 + 1 * b.val = _
    rw [e1, one_mul]; rfl

theorem cover14 (i : S1024x36864.Idx) : ∃ t : Fin cfg0.N, (cfg0.win 14).flush t = true ∧ i ∈ ((cfg0.win 14).blk t).view.set := by
  have h0 : (i 0).val < 1024 := (i 0).isLt
  have h1 : (i 1).val < 36864 := (i 1).isLt
  have hN : cfg0.N = 72 := by decide
  let t : Fin cfg0.N := ⟨(i 1).val / 512, by omega⟩
  refine ⟨t, flush0_14 t, ?_⟩
  show i ∈ ((View.whole main_v0_2).slice (win0_14.rect t)).set
  rw [View.set_slice_whole, Rect.mem_set_unit]
  obtain ⟨e0, e1⟩ := index14 t
  have ht : t.val = (i 1).val / 512 := rfl
  intro a
  fin_cases a
  · change win0_14.index t 0 * 1024 ≤ (i 0).val ∧ (i 0).val < win0_14.index t 0 * 1024 + 1024
    rw [e0]; omega
  · change win0_14.index t 1 * 512 ≤ (i 1).val ∧ (i 1).val < win0_14.index t 1 * 512 + 512
    rw [e1]; omega

theorem index15 : ∀ t : Fin cfg0.N, win0_15.index t 0 = t.val ∧ win0_15.index t 1 = 0 :=
  (by decide +kernel : ∀ t : Fin grid0.N, win0_15.index t 0 = t.val ∧ win0_15.index t 1 = 0)

theorem blk15_apply (c : Dev nD) (t : Fin cfg0.N) (G : Buf (Elt F) ((c.tc : Thread nD τ).loc main_v0_3)) (a : Fin 512) (b : Fin 128) :
    (((cfg0.win 15).blk t).view.read (Elt F) G : Vec F S512x128 .f32) (ix2 a b) = G (ix2 (tok t a) b : S36864x128.Idx) := by
  show G ((win0_15.rect t).emb (ix2 a b)) = _
  refine congrArg _ (funext fun d => Fin.ext ?_)
  obtain ⟨e0, e1⟩ := index15 t
  fin_cases d
  · change win0_15.index t 0 * 512 + 1 * a.val = _
    rw [e0, one_mul]; rfl
  · change win0_15.index t 1 * 128 + 1 * b.val = _
    rw [e1, one_mul, zero_mul, zero_add]; rfl

theorem cover15 (i : S36864x128.Idx) : ∃ t : Fin cfg0.N, (cfg0.win 15).flush t = true ∧ i ∈ ((cfg0.win 15).blk t).view.set := by
  have h0 : (i 0).val < 36864 := (i 0).isLt
  have h1 : (i 1).val < 128 := (i 1).isLt
  have hN : cfg0.N = 72 := by decide
  let t : Fin cfg0.N := ⟨(i 0).val / 512, by omega⟩
  refine ⟨t, flush0_15 t, ?_⟩
  show i ∈ ((View.whole main_v0_3).slice (win0_15.rect t)).set
  rw [View.set_slice_whole, Rect.mem_set_unit]
  obtain ⟨e0, e1⟩ := index15 t
  have ht : t.val = (i 0).val / 512 := rfl
  intro a
  fin_cases a
  · change win0_15.index t 0 * 512 ≤ (i 0).val ∧ (i 0).val < win0_15.index t 0 * 512 + 512
    rw [e0]; omega
  · change win0_15.index t 1 * 128 ≤ (i 1).val ∧ (i 1).val < win0_15.index t 1 * 128 + 128
    rw [e1]; omega

theorem index16 : ∀ t : Fin cfg0.N, win0_16.index t 0 = t.val ∧ win0_16.index t 1 = 0 :=
  (by decide +kernel : ∀ t : Fin grid0.N, win0_16.index t 0 = t.val ∧ win0_16.index t 1 = 0)

theorem blk16_apply (c : Dev nD) (t : Fin cfg0.N) (G : Buf (Elt F) ((c.tc : Thread nD τ).loc main_v0_4)) (a : Fin 512) (b : Fin 32) :
    (((cfg0.win 16).blk t).view.read (Elt F) G : Vec F S512x32 .f32) (ix2 a b) = G (ix2 (tok t a) b : S36864x32.Idx) := by
  show G ((win0_16.rect t).emb (ix2 a b)) = _
  refine congrArg _ (funext fun d => Fin.ext ?_)
  obtain ⟨e0, e1⟩ := index16 t
  fin_cases d
  · change win0_16.index t 0 * 512 + 1 * a.val = _
    rw [e0, one_mul]; rfl
  · change win0_16.index t 1 * 32 + 1 * b.val = _
    rw [e1, one_mul, zero_mul, zero_add]; rfl

theorem cover16 (i : S36864x32.Idx) : ∃ t : Fin cfg0.N, (cfg0.win 16).flush t = true ∧ i ∈ ((cfg0.win 16).blk t).view.set := by
  have h0 : (i 0).val < 36864 := (i 0).isLt
  have h1 : (i 1).val < 32 := (i 1).isLt
  have hN : cfg0.N = 72 := by decide
  let t : Fin cfg0.N := ⟨(i 0).val / 512, by omega⟩
  refine ⟨t, flush0_16 t, ?_⟩
  show i ∈ ((View.whole main_v0_4).slice (win0_16.rect t)).set
  rw [View.set_slice_whole, Rect.mem_set_unit]
  obtain ⟨e0, e1⟩ := index16 t
  have ht : t.val = (i 0).val / 512 := rfl
  intro a
  fin_cases a
  · change win0_16.index t 0 * 512 ≤ (i 0).val ∧ (i 0).val < win0_16.index t 0 * 512 + 512
    rw [e0]; omega
  · change win0_16.index t 1 * 32 ≤ (i 1).val ∧ (i 1).val < win0_16.index t 1 * 32 + 32
    rw [e1]; omega

theorem index17 : ∀ t : Fin cfg0.N, win0_17.index t 0 = t.val ∧ win0_17.index t 1 = 0 :=
  (by decide +kernel : ∀ t : Fin grid0.N, win0_17.index t 0 = t.val ∧ win0_17.index t 1 = 0)

theorem blk17_apply (c : Dev nD) (t : Fin cfg0.N) (G : Buf (Elt F) ((c.tc : Thread nD τ).loc main_v0_5)) (a : Fin 512) (b : Fin 128) :
    (((cfg0.win 17).blk t).view.read (Elt F) G : Vec F S512x128 .f32) (ix2 a b) = G (ix2 (tok t a) b : S36864x128.Idx) := by
  show G ((win0_17.rect t).emb (ix2 a b)) = _
  refine congrArg _ (funext fun d => Fin.ext ?_)
  obtain ⟨e0, e1⟩ := index17 t
  fin_cases d
  · change win0_17.index t 0 * 512 + 1 * a.val = _
    rw [e0, one_mul]; rfl
  · change win0_17.index t 1 * 128 + 1 * b.val = _
    rw [e1, one_mul, zero_mul, zero_add]; rfl

theorem cover17 (i : S36864x128.Idx) : ∃ t : Fin cfg0.N, (cfg0.win 17).flush t = true ∧ i ∈ ((cfg0.win 17).blk t).view.set := by
  have h0 : (i 0).val < 36864 := (i 0).isLt
  have h1 : (i 1).val < 128 := (i 1).isLt
  have hN : cfg0.N = 72 := by decide
  let t : Fin cfg0.N := ⟨(i 0).val / 512, by omega⟩
  refine ⟨t, flush0_17 t, ?_⟩
  show i ∈ ((View.whole main_v0_5).slice (win0_17.rect t)).set
  rw [View.set_slice_whole, Rect.mem_set_unit]
  obtain ⟨e0, e1⟩ := index17 t
  have ht : t.val = (i 0).val / 512 := rfl
  intro a
  fin_cases a
  · change win0_17.index t 0 * 512 ≤ (i 0).val ∧ (i 0).val < win0_17.index t 0 * 512 + 512
    rw [e0]; omega
  · change win0_17.index t 1 * 128 ≤ (i 1).val ∧ (i 1).val < win0_17.index t 1 * 128 + 128
    rw [e1]; omega

end Cert.Proj

end
-- ==== Proof.ProjRef.lean ====
/-
  What the input projection's reference computes, read at one element of each of its results.
-/
module

public import proofs.«01_k».proof.Proof.Gen.Reference3Ideal.Run
public import proofs.«01_k».proof.Proof.ProjNet
public import Idealize.ShloMosaic.Lib.Pointwise

@[expose] public section

set_option maxRecDepth 16384

noncomputable section

namespace Cert.Proj.Ref

open Cert.Reference3Ideal Cert.Reference3Ideal.Gen Cert.Reference3Ideal.Value Idealize.ShloMosaic Idealize.ShloMosaic.StableHlo

variable (x : FVec Ideal S36864x1024 .f32) (md : FVec Ideal S16x1x6144 .f32) (g : FVec Ideal S1x1024 .f32) (w : FVec Ideal S1024x1664 .bf16)
variable (qg : FVec Ideal S1x256 .f32) (wq : FVec Ideal S1024x256 .bf16) (wa wb : FVec Ideal S1024x256 .bf16) (kvg : FVec Ideal S1x128 .f32)
variable (t cq sq : FVec Ideal S128x4608 .f32) (u ck sk : FVec Ideal S4608x128 .f32)

/-- Each token's row of the modulation table. -/
def mods : FVec Ideal S36864x6144 .f32 :=
  fn_main_v6 (F := Ideal)
    (shapeCast S32768x6144 (broadcastInDim S8x4096x6144 ![0, 1, 2] bcast_S8x1x6144_S8x4096x6144_0_1_2
      (extractStridedSlice S8x1x6144 ![1, 0, 0] md slices_S16x1x6144_S8x1x6144_1_0_0)) shapeCasts_S8x4096x6144_S32768x6144)
    (broadcastInDim S4096x6144 ![0, 1] bcast_S1x6144_S4096x6144_0_1
      (shapeCast S1x6144 (extractStridedSlice S1x1x6144 ![0, 0, 0] md slices_S16x1x6144_S1x1x6144_0_0_0) shapeCasts_S1x1x6144_S1x6144))

/-- The normalized tokens. -/
def normX : FVec Ideal S36864x1024 .f32 :=
  mulf (mulf x (broadcastInDim S36864x1024 ![0, 1] bcast_S36864x1_S36864x1024_0_1 (Host.rsqrt (addf (Host.divf
    (broadcastInDim S36864x1 ![0] bcast_S36864_S36864x1_0 (Host.reduceAdd (mulf x x) (constant S_ .f32 0x00000000#32) reducesTo_S36864x1024_S36864_d1 h_S_))
    (broadcastInDim S36864x1 ![] bcast_S_S36864x1 (constant S_ .f32 0x44800000#32)))
    (broadcastInDim S36864x1 ![] bcast_S_S36864x1 (constant S_ .f32 0x358637BD#32))))))
    (broadcastInDim S36864x1024 ![0, 1] bcast_S1x1024_S36864x1024_0_1 g)

/-- Every token's projection. -/
def projX : FVec Ideal S36864x1664 .f32 :=
  Host.dotGeneral dot_S36864x1024_S1024x1664_S36864x1664_1_0_0_1_n_n none
    (addf (mulf (normX x g) (addf (broadcastInDim S36864x1024 ![] bcast_S_S36864x1024 (constant S_ .f32 0x3F800000#32))
      (extractStridedSlice S36864x1024 ![0, 1024] (mods md) slices_S36864x6144_S36864x1024_0_1024)))
      (extractStridedSlice S36864x1024 ![0, 0] (mods md) slices_S36864x6144_S36864x1024_0_0))
    (extf .f32 w bitsLt_bf16_f32)

variable (p : FVec Ideal S36864x1664 .f32)

/-- The normalized query parts. -/
def queries : FVec Ideal S36864x256 .f32 :=
  mulf (mulf (extractStridedSlice S36864x256 ![0, 1024] p slices_S36864x1664_S36864x256_0_1024) (broadcastInDim S36864x256 ![0, 1] bcast_S36864x1_S36864x256_0_1 (Host.rsqrt (addf (Host.divf
    (broadcastInDim S36864x1 ![0] bcast_S36864_S36864x1_0 (Host.reduceAdd (mulf (extractStridedSlice S36864x256 ![0, 1024] p slices_S36864x1664_S36864x256_0_1024) (extractStridedSlice S36864x256 ![0, 1024] p slices_S36864x1664_S36864x256_0_1024)) (constant S_ .f32 0x00000000#32) reducesTo_S36864x256_S36864_d1 h_S_))
    (broadcastInDim S36864x1 ![] bcast_S_S36864x1 (constant S_ .f32 0x43800000#32)))
    (broadcastInDim S36864x1 ![] bcast_S_S36864x1 (constant S_ .f32 0x358637BD#32))))))
    (broadcastInDim S36864x256 ![0, 1] bcast_S1x256_S36864x256_0_1 qg)

/-- The normalized key and value parts. -/
def latents : FVec Ideal S36864x128 .f32 :=
  mulf (mulf (extractStridedSlice S36864x128 ![0, 1280] p slices_S36864x1664_S36864x128_0_1280) (broadcastInDim S36864x128 ![0, 1] bcast_S36864x1_S36864x128_0_1 (Host.rsqrt (addf (Host.divf
    (broadcastInDim S36864x1 ![0] bcast_S36864_S36864x1_0 (Host.reduceAdd (mulf (extractStridedSlice S36864x128 ![0, 1280] p slices_S36864x1664_S36864x128_0_1280) (extractStridedSlice S36864x128 ![0, 1280] p slices_S36864x1664_S36864x128_0_1280)) (constant S_ .f32 0x00000000#32) reducesTo_S36864x128_S36864_d1 h_S_))
    (broadcastInDim S36864x1 ![] bcast_S_S36864x1 (constant S_ .f32 0x43000000#32)))
    (broadcastInDim S36864x1 ![] bcast_S_S36864x1 (constant S_ .f32 0x358637BD#32))))))
    (broadcastInDim S36864x128 ![0, 1] bcast_S1x128_S36864x128_0_1 kvg)

/-- A position table's rows of the requests' tokens, -/
def rowsA : FVec Ideal S32768x128 .f32 :=
  shapeCast S32768x128 (broadcastInDim S8x4096x128 ![0, 1, 2] bcast_S1x4096x128_S8x4096x128_0_1_2 (broadcastInDim S1x4096x128 ![1, 2] bcast_S4096x128_S1x4096x128_1_2
    (extractStridedSlice S4096x128 ![0, 0] u slices_S4608x128_S4096x128_0_0))) shapeCasts_S8x4096x128_S32768x128

/-- of the context's tokens, -/
def rowsB : FVec Ideal S4096x128 .f32 :=
  shapeCast S4096x128 (broadcastInDim S8x512x128 ![0, 1, 2] bcast_S1x512x128_S8x512x128_0_1_2 (broadcastInDim S1x512x128 ![1, 2] bcast_S512x128_S1x512x128_1_2
    (extractStridedSlice S512x128 ![4096, 0] u slices_S4608x128_S512x128_4096_0))) shapeCasts_S8x512x128_S4096x128

/-- and of them all. -/
def rows : FVec Ideal S36864x128 .f32 := fn_main_v104 (F := Ideal) (rowsA u) (rowsB u)

/-- The heads' queries from one weight, times a position table. -/
def headsOf (q : FVec Ideal S36864x256 .f32) : FVec Ideal S36864x8x128 .f32 :=
  mulf (shapeCast S36864x8x128 (Host.dotGeneral dot_S36864x256_S256x1024_S36864x1024_1_0_0_1_n_n none q
      (transpose S256x1024 [1, 0] (extf .f32 wq bitsLt_bf16_f32) transposes_S1024x256_S256x1024_1_0) : FVec Ideal S36864x1024 .f32) shapeCasts_S36864x1024_S36864x8x128)
    (broadcastInDim S36864x8x128 ![0, 1, 2] bcast_S36864x1x128_S36864x8x128_0_1_2 (broadcastInDim S36864x1x128 ![0, 2] bcast_S36864x128_S36864x1x128_0_2
      (rows (transpose S4608x128 [1, 0] t transposes_S128x4608_S4608x128_1_0))))

/-- The rotated queries, laid out by head and dimension. -/
def qt : FVec Ideal S1024x36864 .bf16 :=
  truncf .bf16 (transpose S1024x36864 [1, 0] (shapeCast S36864x1024 (addf (headsOf wa cq (queries qg p)) (headsOf wb sq (queries qg p)))
    shapeCasts_S36864x8x128_S36864x1024) transposes_S36864x1024_S1024x36864_1_0) bitsLt_bf16_f32

/-- What the state-space branch takes of the projection, -/
def hy : FVec Ideal S36864x768 .f32 := extractStridedSlice S36864x768 ![0, 0] p slices_S36864x1664_S36864x768_0_0

/-- what the Fourier branch takes, -/
def fn : FVec Ideal S36864x256 .f32 := extractStridedSlice S36864x256 ![0, 768] p slices_S36864x1664_S36864x256_0_768

/-- The rotary part of the keys, -/
def kr : FVec Ideal S36864x128 .f32 := extractStridedSlice S36864x128 ![0, 1408] p slices_S36864x1664_S36864x128_0_1408

/-- its first columns, -/
def krHead : FVec Ideal S36864x32 .f32 := extractStridedSlice S36864x32 ![0, 0] (kr p) slices_S36864x128_S36864x32_0_0

/-- and rotated. -/
def kra : FVec Ideal S36864x128 .f32 :=
  addf (mulf (kr p) (rows ck)) (mulf (extractStridedSlice S36864x128 ![0, 1536] p slices_S36864x1664_S36864x128_0_1536) (rows sk))

theorem mods_apply (n : Fin 36864) (k : Fin 6144) : mods md (ix2 n k) = md (ix3 ⟨modRow n.val, modRow_lt n.isLt⟩ 0 k) := by
  have e : ∀ (a a' : Fin 16), a.val = a'.val → md (ix3 a 0 k) = md (ix3 a' 0 k) :=
    fun a a' h => congrArg (fun i => md (ix3 i 0 k)) (Fin.ext h)
  have hn := n.isLt
  pointwise [mods, fn_main_v6]
  by_cases h : n.val < 32768
  · rw [dif_pos h]
    exact e _ _ (by show _ = modRow n.val; unfold modRow; rw [if_pos h])
  · rw [dif_neg h]
    exact e _ _ (by show _ = modRow n.val; unfold modRow; rw [if_neg h]; rfl)

theorem rowsA_apply (n : Fin 32768) (k : Fin 128) : rowsA u (ix2 n k) = u (ix2 ⟨n.val % 4096, by omega⟩ k) := by
  unfold rowsA
  refine (shapeCast_apply _ _ _ (ix3 ⟨n.val / 4096, by omega⟩ ⟨n.val % 4096, by omega⟩ k : S8x4096x128.Idx) ?_).trans ?_
  · rw [Shape.rowMajor_val_three, Shape.rowMajor_val_two]
    show (n.val / 4096 * 4096 + n.val % 4096) * 128 + k.val = n.val * 128 + k.val
    omega
  · pointwise []

theorem rowsB_apply (n : Fin 4096) (k : Fin 128) : rowsB u (ix2 n k) = u (ix2 ⟨4096 + n.val % 512, by omega⟩ k) := by
  pointwise [rowsB]

theorem rows_apply (n : Fin 36864) (k : Fin 128) : rows u (ix2 n k) = u (ix2 ⟨posRow n.val, posRow_lt n.isLt⟩ k) := by
  have e : ∀ (a a' : Fin 4608), a.val = a'.val → u (ix2 a k) = u (ix2 a' k) :=
    fun a a' h => congrArg (fun i => u (ix2 i k)) (Fin.ext h)
  have hn := n.isLt
  pointwise [rows, fn_main_v104]
  by_cases h : n.val < 32768
  · rw [dif_pos h]
    refine (rowsA_apply u ⟨n.val, h⟩ k).trans (e _ _ ?_)
    show n.val % 4096 = posRow n.val
    unfold posRow; rw [if_pos h]
  · rw [dif_neg h]
    refine (rowsB_apply u ⟨n.val - 32768, by omega⟩ k).trans (e _ _ ?_)
    show 4096 + (n.val - 32768) % 512 = posRow n.val
    unfold posRow; rw [if_neg h]; omega

theorem normX_apply (n : Fin 36864) (d : Fin 1024) :
    normX x g (ix2 n d) = norm 0x44800000#32 (fun d => x (ix2 n d)) (fun d => g (ix2 0 d)) d := by
  pointwise [normX, norm]

theorem projX_apply (n : Fin 36864) (k : Fin 1664) :
    projX x md g w (ix2 n k) = proj (fun d => x (ix2 n d)) (fun d => md (ix3 ⟨modRow n.val, modRow_lt n.isLt⟩ 0 d)) (fun d => g (ix2 0 d))
      (fun d k => w (ix2 d k)) k := by
  unfold proj
  simp only [← normX_apply, ← mods_apply]
  pointwise [projX]

theorem queries_apply (n : Fin 36864) (k : Fin 256) :
    queries qg p (ix2 n k) = query (fun k => p (ix2 n k)) (fun k => qg (ix2 0 k)) k := by
  pointwise [queries, query, norm]

theorem latents_apply (n : Fin 36864) (k : Fin 128) :
    latents kvg p (ix2 n k) = latent (fun k => p (ix2 n k)) (fun k => kvg (ix2 0 k)) k := by
  pointwise [latents, latent, norm]

theorem headsOf_apply (q : FVec Ideal S36864x256 .f32) (n : Fin 36864) (h : Fin 8) (d : Fin 128) :
    headsOf wq t q (ix3 n h d)
      = (∑ k : Fin 256, q (ix2 n k) * wq (ix2 ⟨h.val * 128 + d.val, by omega⟩ k)) * t (ix2 d ⟨posRow n.val, posRow_lt n.isLt⟩) := by
  have e : t (ix2 d ⟨posRow n.val, posRow_lt n.isLt⟩) = rows (transpose S4608x128 [1, 0] t transposes_S128x4608_S4608x128_1_0) (ix2 n d) := by
    rw [rows_apply]
    pointwise []
  rw [e]
  pointwise [headsOf]

theorem qt_apply (o : Fin 1024) (n : Fin 36864) :
    qt qg wa wb cq sq p (ix2 o n)
      = (∑ k : Fin 256, query (fun k => p (ix2 n k)) (fun k => qg (ix2 0 k)) k * wa (ix2 o k)) * cq (ix2 ⟨o.val % 128, by omega⟩ ⟨posRow n.val, posRow_lt n.isLt⟩)
        + (∑ k : Fin 256, query (fun k => p (ix2 n k)) (fun k => qg (ix2 0 k)) k * wb (ix2 o k)) * sq (ix2 ⟨o.val % 128, by omega⟩ ⟨posRow n.val, posRow_lt n.isLt⟩) := by
  have eo : o = ⟨o.val / 128 * 128 + o.val % 128, by omega⟩ := Fin.ext (by show o.val = o.val / 128 * 128 + o.val % 128; omega)
  have h1 := headsOf_apply wa cq (queries qg p) n ⟨o.val / 128, by omega⟩ ⟨o.val % 128, by omega⟩
  have h2 := headsOf_apply wb sq (queries qg p) n ⟨o.val / 128, by omega⟩ ⟨o.val % 128, by omega⟩
  simp only [queries_apply, ← eo] at h1 h2
  rw [← h1, ← h2]
  pointwise [qt]

theorem kr_apply (n : Fin 36864) (k : Fin 128) : kr p (ix2 n k) = p (ix2 n ⟨1408 + k.val, by omega⟩) := by
  pointwise [kr]

theorem krHead_apply (n : Fin 36864) (k : Fin 32) : krHead p (ix2 n k) = p (ix2 n ⟨1408 + k.val, by omega⟩) := by
  pointwise [krHead, kr]

theorem hy_apply (n : Fin 36864) (k : Fin 768) : hy p (ix2 n k) = p (ix2 n ⟨k.val, by omega⟩) := by
  pointwise [hy]

theorem fn_apply (n : Fin 36864) (k : Fin 256) : fn p (ix2 n k) = p (ix2 n ⟨768 + k.val, by omega⟩) := by
  pointwise [fn]

theorem kra_apply (n : Fin 36864) (k : Fin 128) :
    kra ck sk p (ix2 n k) = p (ix2 n ⟨1408 + k.val, by omega⟩) * ck (ix2 ⟨posRow n.val, posRow_lt n.isLt⟩ k)
      + p (ix2 n ⟨1536 + k.val, by omega⟩) * sk (ix2 ⟨posRow n.val, posRow_lt n.isLt⟩ k) := by
  rw [← rows_apply ck, ← rows_apply sk, ← kr_apply p n k]
  pointwise [kra]

end Cert.Proj.Ref

end
-- ==== Proof.ProjResult.lean ====
/-
  The input projection's whole results: block by block, what the kernel leaves is the reference of its arguments.
-/
module

public import proofs.«01_k».proof.Proof.ProjValue
public import proofs.«01_k».proof.Proof.ProjWindows
public import proofs.«01_k».proof.Proof.ProjRef

@[expose] public section

set_option maxRecDepth 16384

noncomputable section

namespace Cert.Proj

open Cert.Kernel3Ideal Cert.Kernel3Ideal.Gen Idealize.ShloMosaic Idealize.ShloMosaic.TcCoe
open Idealize.ShloMosaic.Pipeline (Dat)
open Idealize.SL.Sem

/-- What a run leaves: each result's array block by block, the arguments as they were. -/
theorem run_blocks {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v0_0) = (dats m 0 c).arrAt 12 cfg0.N
      ∧ r.2.mem ((c.tc : Thread nD τ).loc main_v0_1) = (dats m 0 c).arrAt 13 cfg0.N
      ∧ r.2.mem ((c.tc : Thread nD τ).loc main_v0_2) = (dats m 0 c).arrAt 14 cfg0.N
      ∧ r.2.mem ((c.tc : Thread nD τ).loc main_v0_3) = (dats m 0 c).arrAt 15 cfg0.N
      ∧ r.2.mem ((c.tc : Thread nD τ).loc main_v0_4) = (dats m 0 c).arrAt 16 cfg0.N
      ∧ r.2.mem ((c.tc : Thread nD τ).loc main_v0_5) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.2 c).1 12, (h.2 c).1 13, (h.2 c).1 14, (h.2 c).1 15, (h.2 c).1 16, (h.2 c).1 17, h.1 c⟩)
    (θ_run_and (unchanged m ρ) (run_main m ρ))

variable (m : (ℓ : Loc nD τ sig) → Buf (Elt Ideal) ℓ) (c : Dev nD)

/-- The reference's projection of a run's arguments, -/
abbrev wantP : FVec Ideal Cert.Reference3Ideal.S36864x1664 .f32 :=
  Ref.projX (m ((c.tc : Thread nD τ).loc main_arg0)) (m ((c.tc : Thread nD τ).loc main_arg1)) (m ((c.tc : Thread nD τ).loc main_arg2))
    (m ((c.tc : Thread nD τ).loc main_arg3))

/-- and its results. -/
abbrev want12 : FVec Ideal S36864x768 .f32 := Ref.hy (wantP m c)
abbrev want13 : FVec Ideal S36864x256 .f32 := Ref.fn (wantP m c)
abbrev want14 : FVec Ideal S1024x36864 .bf16 :=
  Ref.qt (m ((c.tc : Thread nD τ).loc main_arg4)) (m ((c.tc : Thread nD τ).loc main_arg5)) (m ((c.tc : Thread nD τ).loc main_arg6))
    (m ((c.tc : Thread nD τ).loc main_arg8)) (m ((c.tc : Thread nD τ).loc main_arg9)) (wantP m c)
abbrev want15 : FVec Ideal S36864x128 .f32 := Ref.latents (m ((c.tc : Thread nD τ).loc main_arg7)) (wantP m c)
abbrev want16 : FVec Ideal S36864x32 .f32 := Ref.krHead (wantP m c)
abbrev want17 : FVec Ideal S36864x128 .f32 :=
  Ref.kra (m ((c.tc : Thread nD τ).loc main_arg10)) (m ((c.tc : Thread nD τ).loc main_arg11)) (wantP m c)

/-- A row of the block is its token's projection. -/
theorem proj_block (t : Fin cfg0.N) (r : Fin 512) (k : Fin 1664) :
    blockProj (iblk m c 0 t) (iblk m c 1 t) (iblk m c 2 t) (iblk m c 3 t) r k = wantP m c (ix2 (tok t r) k) := by
  refine Eq.trans ?_ (Ref.projX_apply _ _ _ _ (tok t r) k).symm
  have h0 := iblk0_apply m c t r
  have h1 := iblk1_apply m c t r
  have h2 := iblk2_apply m c t 0
  have h3 := iblk3_apply m c t
  simp only [blockProj, h0, h1, h2, h3]

theorem out_block12 (t : Fin cfg0.N) (a : Fin 512) (b : Fin 768) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b)
      = want12 m c (ix2 (tok t a) b) := by
  refine Eq.trans ?_ (Ref.hy_apply _ (tok t a) b).symm
  rw [← proj_block]
  exact out12_apply _ _ _ _ _ _ _ _ _ _ _ _ a b

theorem result12 : (dats m 0 c).arrAt 12 cfg0.N = want12 m c := by
  refine (dats m 0 c).arrAt_eq_of_cover 12 (want12 m c) (fun t _ => ?_) cover12
  show (cfg0.win 12).cut (grid0.coords t) ((dats m 0 c).after 12 t) = _
  rw [after0_12]
  refine funext fun (j : S512x768.Idx) => ?_
  have ej : j = ix2 (j 0) (j 1) := by
    funext a
    fin_cases a <;> rfl
  have er := blk12_apply (F := Ideal) c t (want12 m c) (j 0) (j 1)
  have e := out_block12 m c t (j 0) (j 1)
  exact (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ej).trans (e.trans (er.symm.trans
    (congrArg (((cfg0.win 12).blk t).view.read (Elt Ideal) (want12 m c) : Vec Ideal S512x768 .f32) ej).symm))

theorem out_block13 (t : Fin cfg0.N) (a : Fin 512) (b : Fin 256) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b)
      = want13 m c (ix2 (tok t a) b) := by
  refine Eq.trans ?_ (Ref.fn_apply _ (tok t a) b).symm
  rw [← proj_block]
  exact out13_apply _ _ _ _ _ _ _ _ _ _ _ _ a b

theorem result13 : (dats m 0 c).arrAt 13 cfg0.N = want13 m c := by
  refine (dats m 0 c).arrAt_eq_of_cover 13 (want13 m c) (fun t _ => ?_) cover13
  show (cfg0.win 13).cut (grid0.coords t) ((dats m 0 c).after 13 t) = _
  rw [after0_13]
  refine funext fun (j : S512x256.Idx) => ?_
  have ej : j = ix2 (j 0) (j 1) := by
    funext a
    fin_cases a <;> rfl
  have er := blk13_apply (F := Ideal) c t (want13 m c) (j 0) (j 1)
  have e := out_block13 m c t (j 0) (j 1)
  exact (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ej).trans (e.trans (er.symm.trans
    (congrArg (((cfg0.win 13).blk t).view.read (Elt Ideal) (want13 m c) : Vec Ideal S512x256 .f32) ej).symm))

theorem out_block14 (t : Fin cfg0.N) (a : Fin 1024) (b : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b)
      = want14 m c (ix2 a (tok t b)) := by
  have h4 := iblk4_apply m c t 0
  have h5 := iblk5_apply m c t a
  have h6 := iblk6_apply m c t a
  have h8 := iblk8_apply m c t ⟨a.val % 128, by omega⟩ b
  have h9 := iblk9_apply m c t ⟨a.val % 128, by omega⟩ b
  refine Eq.trans ?_ (Ref.qt_apply _ _ _ _ _ _ a (tok t b)).symm
  refine (out14_apply _ _ _ _ _ _ _ _ _ _ _ _ a b).trans ?_
  have hp : blockProj (iblk m c 0 t) (iblk m c 1 t) (iblk m c 2 t) (iblk m c 3 t) b = fun k => wantP m c (ix2 (tok t b) k) :=
    funext fun k => proj_block m c t b k
  rw [h8, h9]
  simp only [hp, h4, h5, h6]
  refine congrArg₂ (fun x y => x * _ + y * _) ?_ ?_ <;> exact Finset.sum_congr rfl fun k _ => mul_comm _ _

theorem result14 : (dats m 0 c).arrAt 14 cfg0.N = want14 m c := by
  refine (dats m 0 c).arrAt_eq_of_cover 14 (want14 m c) (fun t _ => ?_) cover14
  show (cfg0.win 14).cut (grid0.coords t) ((dats m 0 c).after 14 t) = _
  rw [after0_14]
  refine funext fun (j : S1024x512.Idx) => ?_
  have ej : j = ix2 (j 0) (j 1) := by
    funext a
    fin_cases a <;> rfl
  have er := blk14_apply (F := Ideal) c t (want14 m c) (j 0) (j 1)
  have e := out_block14 m c t (j 0) (j 1)
  exact (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ej).trans (e.trans (er.symm.trans
    (congrArg (((cfg0.win 14).blk t).view.read (Elt Ideal) (want14 m c) : Vec Ideal S1024x512 .bf16) ej).symm))

theorem out_block15 (t : Fin cfg0.N) (a : Fin 512) (b : Fin 128) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b)
      = want15 m c (ix2 (tok t a) b) := by
  have h7 := iblk7_apply m c t 0
  refine Eq.trans ?_ (Ref.latents_apply _ _ (tok t a) b).symm
  refine (out15_apply _ _ _ _ _ _ _ _ _ _ _ _ a b).trans ?_
  have hp : blockProj (iblk m c 0 t) (iblk m c 1 t) (iblk m c 2 t) (iblk m c 3 t) a = fun k => wantP m c (ix2 (tok t a) k) :=
    funext fun k => proj_block m c t a k
  simp only [hp, h7]

theorem result15 : (dats m 0 c).arrAt 15 cfg0.N = want15 m c := by
  refine (dats m 0 c).arrAt_eq_of_cover 15 (want15 m c) (fun t _ => ?_) cover15
  show (cfg0.win 15).cut (grid0.coords t) ((dats m 0 c).after 15 t) = _
  rw [after0_15]
  refine funext fun (j : S512x128.Idx) => ?_
  have ej : j = ix2 (j 0) (j 1) := by
    funext a
    fin_cases a <;> rfl
  have er := blk15_apply (F := Ideal) c t (want15 m c) (j 0) (j 1)
  have e := out_block15 m c t (j 0) (j 1)
  exact (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ej).trans (e.trans (er.symm.trans
    (congrArg (((cfg0.win 15).blk t).view.read (Elt Ideal) (want15 m c) : Vec Ideal S512x128 .f32) ej).symm))

theorem out_block16 (t : Fin cfg0.N) (a : Fin 512) (b : Fin 32) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b)
      = want16 m c (ix2 (tok t a) b) := by
  refine Eq.trans ?_ (Ref.krHead_apply _ (tok t a) b).symm
  rw [← proj_block]
  exact out16_apply _ _ _ _ _ _ _ _ _ _ _ _ a b

theorem result16 : (dats m 0 c).arrAt 16 cfg0.N = want16 m c := by
  refine (dats m 0 c).arrAt_eq_of_cover 16 (want16 m c) (fun t _ => ?_) cover16
  show (cfg0.win 16).cut (grid0.coords t) ((dats m 0 c).after 16 t) = _
  rw [after0_16]
  refine funext fun (j : S512x32.Idx) => ?_
  have ej : j = ix2 (j 0) (j 1) := by
    funext a
    fin_cases a <;> rfl
  have er := blk16_apply (F := Ideal) c t (want16 m c) (j 0) (j 1)
  have e := out_block16 m c t (j 0) (j 1)
  exact (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ej).trans (e.trans (er.symm.trans
    (congrArg (((cfg0.win 16).blk t).view.read (Elt Ideal) (want16 m c) : Vec Ideal S512x32 .f32) ej).symm))

theorem out_block17 (t : Fin cfg0.N) (a : Fin 512) (b : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b)
      = want17 m c (ix2 (tok t a) b) := by
  have h10 := iblk10_apply m c t a b
  have h11 := iblk11_apply m c t a b
  refine Eq.trans ?_ (Ref.kra_apply _ _ _ (tok t a) b).symm
  rw [← proj_block, ← proj_block]
  refine (out17_apply _ _ _ _ _ _ _ _ _ _ _ _ a b).trans ?_
  rw [h10, h11]

theorem result17 : (dats m 0 c).arrAt 17 cfg0.N = want17 m c := by
  refine (dats m 0 c).arrAt_eq_of_cover 17 (want17 m c) (fun t _ => ?_) cover17
  show (cfg0.win 17).cut (grid0.coords t) ((dats m 0 c).after 17 t) = _
  rw [after0_17]
  refine funext fun (j : S512x128.Idx) => ?_
  have ej : j = ix2 (j 0) (j 1) := by
    funext a
    fin_cases a <;> rfl
  have er := blk17_apply (F := Ideal) c t (want17 m c) (j 0) (j 1)
  have e := out_block17 m c t (j 0) (j 1)
  exact (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ej).trans (e.trans (er.symm.trans
    (congrArg (((cfg0.win 17).blk t).view.read (Elt Ideal) (want17 m c) : Vec Ideal S512x128 .f32) ej).symm))

end Cert.Proj

end
-- ==== Proof.lean ====
/-
  The claim. The attention's kernel and its idealization and reference run, leave their arguments alone and every counter at
  zero, and over real queries and keys the idealization's result is the reference's. The same of the experts' kernel, when the
  table names experts and between 1 and 608 blocks are in use; and of the input projection, for any arguments.
-/
module

public import proofs.«01_k».proof.Defs
public import proofs.«01_k».proof.Proof.KernelFrame
public import proofs.«01_k».proof.Proof.Gen.ReferenceIdeal.Run
public import proofs.«01_k».proof.Proof.Result
public import proofs.«01_k».proof.Proof.Finite
public import proofs.«01_k».proof.Proof.ExpertsBitsFrame
public import proofs.«01_k».proof.Proof.ExpertsBitsOk
public import proofs.«01_k».proof.Proof.ExpertsResult
public import proofs.«01_k».proof.Proof.Tables
public import proofs.«01_k».proof.Proof.Gen.Reference2Ideal.Run
public import proofs.«01_k».proof.Proof.Gen.Kernel3.Frame
public import proofs.«01_k».proof.Proof.ProjResult
public import proofs.«01_k».proof.Proof.Gen.Reference3Ideal.Run
public import Idealize.ShloMosaic.Lib.Quiescent

@[expose] public section

noncomputable section

namespace Cert.Proof

open Idealize.ShloMosaic Idealize.SL.Sem

/-- The reference runs, leaves its arguments alone, and declares no counter. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- THE EQUATION of the two programs. -/
theorem equal_results : Cert.algebraic_KernelIdeal_ReferenceIdeal_pre_finite (hKernelIdeal := Cert.KernelIdeal.Gen.facts)
    (hReferenceIdeal := Cert.ReferenceIdeal.Gen.facts) (hPre_finite := Cert.Attn.finite_facts) := by
  intro m g m' g' hpre hm
  refine ⟨fun c => Cert.Attn.Ref.out (Cert.Attn.argQ m c) (Cert.Attn.argK m c) (Cert.Attn.argV m c), ?_, ?_⟩
  · refine (θ_run Cert.KernelIdeal.defs _ _).mono (fun r h c => ⟨(h c).1.trans ?_, (h c).2⟩)
      (Cert.Attn.run_blocks (F := Ideal) m g)
    letI := Cert.Attn.finite_facts
    exact Cert.Attn.result_eq m c (Cert.Attn.queries_real _ _ _ (hpre c).1) (Cert.Attn.keys_real _ _ _ (hpre c).2)
  · refine (θ_run Cert.ReferenceIdeal.defs _ _).mono (fun r h c => ⟨(h c).1.trans ?_, (h c).2⟩)
      (Cert.ReferenceIdeal.Value.run (F := Ideal) m' g')
    rw [(hm c).1, (hm c).2.1, (hm c).2.2]
    rfl

/-- The tables of the experts' kernel lie in range, -/
theorem ok_bits (m : (ℓ : Loc Cert.Kernel2.nD Cert.Kernel2.τ Cert.Kernel2.sig) → Buf (Elt Bits) ℓ)
    (h : Cert.Pre_Kernel2 (hPre_tables := Cert.Tables.facts) m) : Cert.ExpertsBits.Ok m :=
  letI := Cert.Tables.facts
  Cert.ExpertsBits.ok_tbl m (Cert.Tables.expert_lt _ _ _ _ _ _ _ _ _ (h 0).1) (Cert.Tables.used_le _ _ _ _ _ _ _ _ _ (h 0).2)

/-- those of its idealization too. -/
theorem tables_ideal (m : (ℓ : Loc Cert.Kernel2Ideal.nD Cert.Kernel2Ideal.τ Cert.Kernel2Ideal.sig) → Buf (Elt Ideal) ℓ)
    (h : Cert.Pre_Kernel2Ideal (hPre_tables := Cert.Tables.facts) m) :
    (∀ x, (Cert.Experts.argE m x).toNat < 32) ∧ ∀ x, 1 ≤ (Cert.Experts.argU m x).toNat ∧ (Cert.Experts.argU m x).toNat ≤ 608 :=
  letI := Cert.Tables.facts
  ⟨Cert.Tables.expert_lt _ _ _ _ _ _ _ _ _ (h 0).1, Cert.Tables.used_le _ _ _ _ _ _ _ _ _ (h 0).2⟩

/-- So every block its windows name lies inside its array. -/
theorem ok_ideal (m : (ℓ : Loc Cert.Kernel2Ideal.nD Cert.Kernel2Ideal.τ Cert.Kernel2Ideal.sig) → Buf (Elt Ideal) ℓ)
    (h : Cert.Pre_Kernel2Ideal (hPre_tables := Cert.Tables.facts) m) : Cert.Experts.Ok m :=
  Cert.Experts.ok_tbl m (tables_ideal m h).1 (tables_ideal m h).2

/-- The experts' reference runs, leaves its arguments alone, and declares no counter. -/
theorem reference2_frame : Cert.quiescent_Reference2Ideal (hReference2Ideal := Cert.Reference2Ideal.Gen.facts)
    (hPre_tables := Cert.Tables.facts) := fun m g _ =>
  (θ_run Cert.Reference2Ideal.defs _ _).mono (fun r h => ⟨fun c => (h c).2, sem_eq_zero_of_no_sems (by decide) r.2⟩)
    (Cert.Reference2Ideal.Value.run (F := Ideal) m g)

/-- THE EQUATION of the experts' two programs. -/
theorem equal_results2 : Cert.algebraic_Kernel2Ideal_Reference2Ideal (hKernel2Ideal := Cert.Kernel2Ideal.Gen.facts)
    (hReference2Ideal := Cert.Reference2Ideal.Gen.facts) (hPre_tables := Cert.Tables.facts) := by
  intro m g m' g' hpre hm
  refine ⟨fun c => Cert.Experts.want m c, ?_, ?_⟩
  · refine (θ_run Cert.Kernel2Ideal.defs _ _).mono (fun r h c => ⟨(h c).1.trans ?_, (h c).2⟩)
      (Cert.Experts.run_blocks (F := Ideal) m g (ok_ideal m hpre))
    exact Cert.Experts.result_eq m (ok_ideal m hpre) c (tables_ideal m hpre).1 (tables_ideal m hpre).2
  · refine (θ_run Cert.Reference2Ideal.defs _ _).mono (fun r h c => ⟨(h c).1.trans ?_, (h c).2⟩)
      (Cert.Reference2Ideal.Value.run (F := Ideal) m' g')
    rw [Cert.Experts.Ref.res_eq]
    obtain ⟨e0, e1, e2, e3, e4, e5, e6, e7, e8⟩ := hm c
    rw [e0, e1, e2, e3, e4, e5, e6, e7, e8]

/-- The input projection's reference runs, leaves its arguments alone, and declares no counter. -/
theorem reference3_frame : Cert.quiescent_Reference3Ideal (hReference3Ideal := Cert.Reference3Ideal.Gen.facts) := fun m g _ =>
  (θ_run Cert.Reference3Ideal.defs _ _).mono (fun r h => ⟨fun c => (h c).2.2.2.2.2.2, sem_eq_zero_of_no_sems (by decide) r.2⟩)
    (Cert.Reference3Ideal.Value.run (F := Ideal) m g)

open Cert.Reference3Ideal in
/-- The reference's projection of its arguments. -/
abbrev refP (m : (ℓ : Loc nD τ sig) → Buf (Elt Ideal) ℓ) (c : Dev nD) : FVec Ideal S36864x1664 .f32 :=
  Cert.Proj.Ref.projX (m ((c.tc : Thread nD τ).loc main_arg0)) (m ((c.tc : Thread nD τ).loc main_arg1))
    (m ((c.tc : Thread nD τ).loc main_arg2)) (m ((c.tc : Thread nD τ).loc main_arg3))

open Cert.Reference3Ideal in
/-- What the reference's run leaves, in the names of its stages. -/
theorem reference3_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v77) = Cert.Proj.Ref.hy (refP m c)
      ∧ r.2.mem ((c.tc : Thread nD τ).loc main_v78) = Cert.Proj.Ref.fn (refP m c)
      ∧ r.2.mem ((c.tc : Thread nD τ).loc main_v81) = Cert.Proj.Ref.qt (m ((c.tc : Thread nD τ).loc main_arg4)) (m ((c.tc : Thread nD τ).loc main_arg5))
          (m ((c.tc : Thread nD τ).loc main_arg6)) (m ((c.tc : Thread nD τ).loc main_arg8)) (m ((c.tc : Thread nD τ).loc main_arg9)) (refP m c)
      ∧ r.2.mem ((c.tc : Thread nD τ).loc main_v94) = Cert.Proj.Ref.latents (m ((c.tc : Thread nD τ).loc main_arg7)) (refP m c)
      ∧ r.2.mem ((c.tc : Thread nD τ).loc main_v95) = Cert.Proj.Ref.krHead (refP m c)
      ∧ r.2.mem ((c.tc : Thread nD τ).loc main_v116)
          = Cert.Proj.Ref.kra (m ((c.tc : Thread nD τ).loc main_arg10)) (m ((c.tc : Thread nD τ).loc main_arg11)) (refP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2⟩) (Cert.Reference3Ideal.Value.run (F := Ideal) m g)

/-- THE EQUATION of the input projection's two programs. -/
theorem equal_results3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Proj.want12 m c, fun c => Cert.Proj.want13 m c, fun c => Cert.Proj.want14 m c, fun c => Cert.Proj.want15 m c,
    fun c => Cert.Proj.want16 m c, fun c => Cert.Proj.want17 m c, ?_, ?_⟩
  · exact (θ_run Cert.Kernel3Ideal.defs _ _).mono (fun r h c => ⟨(h c).1.trans (Cert.Proj.result12 m c), (h c).2.1.trans (Cert.Proj.result13 m c),
      (h c).2.2.1.trans (Cert.Proj.result14 m c), (h c).2.2.2.1.trans (Cert.Proj.result15 m c), (h c).2.2.2.2.1.trans (Cert.Proj.result16 m c),
      (h c).2.2.2.2.2.1.trans (Cert.Proj.result17 m c), (h c).2.2.2.2.2.2⟩) (Cert.Proj.run_blocks (F := Ideal) m g)
  · refine (θ_run Cert.Reference3Ideal.defs _ _).mono (fun r h c => ?_) (reference3_run m' g')
    obtain ⟨e0, e1, e2, e3, e4, e5, e6, e7, e8, e9, e10, e11⟩ := hm c
    have hP : refP m' c = Cert.Proj.wantP m c := by
      show Cert.Proj.Ref.projX _ _ _ _ = Cert.Proj.Ref.projX _ _ _ _
      rw [e0, e1, e2, e3]
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · rw [hP]
    · rw [hP]
    · rw [hP, e4, e5, e6, e8, e9]
    · rw [hP, e7]
    · rw [hP]
    · rw [hP, e10, e11]

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Attn.finite_facts, Cert.Tables.facts,
    fun m g _ => Cert.AttnFrame.frame m g,
    fun m g _ => Cert.Attn.frame m g,
    fun m g _ => Cert.Attn.frame m g,
    reference_frame,
    fun m g _ => reference_frame m g trivial,
    fun m g h => Cert.ExpertsBits.frame m g (ok_bits m h),
    fun m g h => Cert.Experts.frame m g (ok_ideal m h),
    reference2_frame,
    fun m g _ => Cert.Kernel3.Gen.frame m g,
    fun m g _ => Cert.Kernel3Ideal.Gen.frame m g,
    reference3_frame,
    trivial,
    equal_results,
    trivial,
    equal_results2,
    trivial,
    equal_results3⟩

end Cert.Proof

end
